-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "maskK" .f32 0xF149F2CA#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S1x2048x1024 : Shape := ⟨3, ![1, 2048, 1024]⟩
abbrev S1024x1024 : Shape := ⟨2, ![1024, 1024]⟩
abbrev S1024x256 : Shape := ⟨2, ![1024, 256]⟩
abbrev S256x128x1x3 : Shape := ⟨4, ![256, 128, 1, 3]⟩
abbrev S256 : Shape := ⟨1, ![256]⟩
abbrev S128x64x1x3 : Shape := ⟨4, ![128, 64, 1, 3]⟩
abbrev S128 : Shape := ⟨1, ![128]⟩
abbrev S64x32x1x3 : Shape := ⟨4, ![64, 32, 1, 3]⟩
abbrev S64 : Shape := ⟨1, ![64]⟩
abbrev S4x16x1x1 : Shape := ⟨4, ![4, 16, 1, 1]⟩
abbrev S4 : Shape := ⟨1, ![4]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256x128x1x3 : S_.BroadcastsInDim S256x128x1x3 (![] : Fin 0 → Fin S256x128x1x3.rank)
  reducesTo_S256x128x1x3_S_d0_1_2_3 : S256x128x1x3.ReducesTo [0, 1, 2, 3] S_
  bcast_S_S256 : S_.BroadcastsInDim S256 (![] : Fin 0 → Fin S256.rank)
  reducesTo_S256_S_d0 : S256.ReducesTo [0] S_
  bcast_S_S128x64x1x3 : S_.BroadcastsInDim S128x64x1x3 (![] : Fin 0 → Fin S128x64x1x3.rank)
  reducesTo_S128x64x1x3_S_d0_1_2_3 : S128x64x1x3.ReducesTo [0, 1, 2, 3] S_
  bcast_S_S128 : S_.BroadcastsInDim S128 (![] : Fin 0 → Fin S128.rank)
  reducesTo_S128_S_d0 : S128.ReducesTo [0] S_
  bcast_S_S64x32x1x3 : S_.BroadcastsInDim S64x32x1x3 (![] : Fin 0 → Fin S64x32x1x3.rank)
  reducesTo_S64x32x1x3_S_d0_1_2_3 : S64x32x1x3.ReducesTo [0, 1, 2, 3] S_
  bcast_S_S64 : S_.BroadcastsInDim S64 (![] : Fin 0 → Fin S64.rank)
  reducesTo_S64_S_d0 : S64.ReducesTo [0] S_
  bcast_S_S4x16x1x1 : S_.BroadcastsInDim S4x16x1x1 (![] : Fin 0 → Fin S4x16x1x1.rank)
  reducesTo_S4x16x1x1_S_d0_1_2_3 : S4x16x1x1.ReducesTo [0, 1, 2, 3] S_
  bcast_S_S4 : S_.BroadcastsInDim S4 (![] : Fin 0 → Fin S4.rank)
  reducesTo_S4_S_d0 : S4.ReducesTo [0] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : IVec S_ 1 := andi main_v3 main_v7
  let main_v49 : IVec S_ 1 := andi main_v48 main_v11
  let main_v50 : IVec S_ 1 := andi main_v49 main_v15
  let main_v51 : IVec S_ 1 := andi main_v50 main_v19
  let main_v52 : IVec S_ 1 := andi main_v51 main_v23
  let main_v53 : IVec S_ 1 := andi main_v52 main_v27
  let main_v54 : IVec S_ 1 := andi main_v53 main_v31
  let main_v55 : IVec S_ 1 := andi main_v54 main_v35
  let main_v56 : IVec S_ 1 := andi main_v55 main_v39
  let main_v57 : IVec S_ 1 := andi main_v56 main_v43
  let main_v58 : IVec S_ 1 := andi main_v57 main_v47
  main_v58

def fn_part2 {F : FTy → Type} [FloatOps F] (main_arg9 : FVec F S64x32x1x3 .f32) (main_arg10 : FVec F S64 .f32) (main_arg11 : FVec F S4x16x1x1 .f32) (main_arg12 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64x32x1x3 .f32 := Host.absf main_arg9
  let main_cst_14 : FVec F S_ .f32 := constant S_ .f32 0x7F800000#32
  let main_v33 : FVec F S64x32x1x3 .f32 := broadcastInDim S64x32x1x3 ![] bcast_S_S64x32x1x3 main_cst_14
  let main_v34 : IVec S64x32x1x3 1 := cmpf .olt main_v32 main_v33
  let main_c_15 : IVec S_ 1 := constantI S_ 1 1#1
  let main_v35 : IVec S_ 1 := (fun x v => Host.reduce IntOp.andi x v reducesTo_S64x32x1x3_S_d0_1_2_3 h_S_) main_v34 main_c_15
  let main_v36 : FVec F S64 .f32 := Host.absf main_arg10
  let main_cst_16 : FVec F S_ .f32 := constant S_ .f32 0x7F800000#32
  let main_v37 : FVec F S64 .f32 := broadcastInDim S64 ![] bcast_S_S64 main_cst_16
  let main_v38 : IVec S64 1 := cmpf .olt main_v36 main_v37
  let main_c_17 : IVec S_ 1 := constantI S_ 1 1#1
  let main_v39 : IVec S_ 1 := (fun x v => Host.reduce IntOp.andi x v reducesTo_S64_S_d0 h_S_) main_v38 main_c_17
  let main_v40 : FVec F S4x16x1x1 .f32 := Host.absf main_arg11
  let main_cst_18 : FVec F S_ .f32 := constant S_ .f32 0x7F800000#32
  let main_v41 : FVec F S4x16x1x1 .f32 := broadcastInDim S4x16x1x1 ![] bcast_S_S4x16x1x1 main_cst_18
  let main_v42 : IVec S4x16x1x1 1 := cmpf .olt main_v40 main_v41
  let main_c_19 : IVec S_ 1 := constantI S_ 1 1#1
  let main_v43 : IVec S_ 1 := (fun x v => Host.reduce IntOp.andi x v reducesTo_S4x16x1x1_S_d0_1_2_3 h_S_) main_v42 main_c_19
  let main_v44 : FVec F S4 .f32 := Host.absf main_arg12
  let main_cst_20 : FVec F S_ .f32 := constant S_ .f32 0x7F800000#32
  let main_v45 : FVec F S4 .f32 := broadcastInDim S4 ![] bcast_S_S4 main_cst_20
  let main_v46 : IVec S4 1 := cmpf .olt main_v44 main_v45
  let main_c_21 : IVec S_ 1 := constantI S_ 1 1#1
  let main_v47 : IVec S_ 1 := (fun x v => Host.reduce IntOp.andi x v reducesTo_S4_S_d0 h_S_) main_v46 main_c_21
  fn_part3 (F := F) main_v3 main_v7 main_v11 main_v15 main_v19 main_v23 main_v27 main_v31 main_v35 main_v39 main_v43 main_v47

def fn_part1 {F : FTy → Type} [FloatOps F] (main_arg5 : FVec F S256x128x1x3 .f32) (main_arg6 : FVec F S256 .f32) (main_arg7 : FVec F S128x64x1x3 .f32) (main_arg8 : FVec F S128 .f32) (main_arg9 : FVec F S64x32x1x3 .f32) (main_arg10 : FVec F S64 .f32) (main_arg11 : FVec F S4x16x1x1 .f32) (main_arg12 : FVec F S4 .f32) (main_v3 : IVec S_ 1) (main_v7 : IVec S_ 1) (main_v11 : IVec S_ 1) (main_v15 : IVec S_ 1) : IVec S_ 1 :=
  let main_v16 : FVec F S256x128x1x3 .f32 := Host.absf main_arg5
  let main_cst_6 : FVec F S_ .f32 := constant S_ .f32 0x7F800000#32
  let main_v17 : FVec F S256x128x1x3 .f32 := broadcastInDim S256x128x1x3 ![] bcast_S_S256x128x1x3 main_cst_6
  let main_v18 : IVec S256x128x1x3 1 := cmpf .olt main_v16 main_v17
  let main_c_7 : IVec S_ 1 := constantI S_ 1 1#1
  let main_v19 : IVec S_ 1 := (fun x v => Host.reduce IntOp.andi x v reducesTo_S256x128x1x3_S_d0_1_2_3 h_S_) main_v18 main_c_7
  let main_v20 : FVec F S256 .f32 := Host.absf main_arg6
  let main_cst_8 : FVec F S_ .f32 := constant S_ .f32 0x7F800000#32
  let main_v21 : FVec F S256 .f32 := broadcastInDim S256 ![] bcast_S_S256 main_cst_8
  let main_v22 : IVec S256 1 := cmpf .olt main_v20 main_v21
  let main_c_9 : IVec S_ 1 := constantI S_ 1 1#1
  let main_v23 : IVec S_ 1 := (fun x v => Host.reduce IntOp.andi x v reducesTo_S256_S_d0 h_S_) main_v22 main_c_9
  let main_v24 : FVec F S128x64x1x3 .f32 := Host.absf main_arg7
  let main_cst_10 : FVec F S_ .f32 := constant S_ .f32 0x7F800000#32
  let main_v25 : FVec F S128x64x1x3 .f32 := broadcastInDim S128x64x1x3 ![] bcast_S_S128x64x1x3 main_cst_10
  let main_v26 : IVec S128x64x1x3 1 := cmpf .olt main_v24 main_v25
  let main_c_11 : IVec S_ 1 := constantI S_ 1 1#1
  let main_v27 : IVec S_ 1 := (fun x v => Host.reduce IntOp.andi x v reducesTo_S128x64x1x3_S_d0_1_2_3 h_S_) main_v26 main_c_11
  let main_v28 : FVec F S128 .f32 := Host.absf main_arg8
  let main_cst_12 : FVec F S_ .f32 := constant S_ .f32 0x7F800000#32
  let main_v29 : FVec F S128 .f32 := broadcastInDim S128 ![] bcast_S_S128 main_cst_12
  let main_v30 : IVec S128 1 := cmpf .olt main_v28 main_v29
  let main_c_13 : IVec S_ 1 := constantI S_ 1 1#1
  let main_v31 : IVec S_ 1 := (fun x v => Host.reduce IntOp.andi x v reducesTo_S128_S_d0 h_S_) main_v30 main_c_13
  fn_part2 (F := F) main_arg9 main_arg10 main_arg11 main_arg12 main_v3 main_v7 main_v11 main_v15 main_v19 main_v23 main_v27 main_v31

def fn {F : FTy → Type} [FloatOps F] (main_arg0 : FVec F S1x2048x1024 .f32) (main_arg1 : FVec F S1024x1024 .f32) (main_arg2 : FVec F S1024x256 .f32) (main_arg3 : FVec F S1024x256 .f32) (main_arg4 : FVec F S1024x1024 .f32) (main_arg5 : FVec F S256x128x1x3 .f32) (main_arg6 : FVec F S256 .f32) (main_arg7 : FVec F S128x64x1x3 .f32) (main_arg8 : FVec F S128 .f32) (main_arg9 : FVec F S64x32x1x3 .f32) (main_arg10 : FVec F S64 .f32) (main_arg11 : FVec F S4x16x1x1 .f32) (main_arg12 : FVec F S4 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1024x256 .f32 := Host.absf main_arg2
  let main_cst_2 : FVec F S_ .f32 := constant S_ .f32 0x7F800000#32
  let main_v9 : FVec F S1024x256 .f32 := broadcastInDim S1024x256 ![] bcast_S_S1024x256 main_cst_2
  let main_v10 : IVec S1024x256 1 := cmpf .olt main_v8 main_v9
  let main_c_3 : IVec S_ 1 := constantI S_ 1 1#1
  let main_v11 : IVec S_ 1 := (fun x v => Host.reduce IntOp.andi x v reducesTo_S1024x256_S_d0_1 h_S_) main_v10 main_c_3
  let main_v12 : FVec F S1024x256 .f32 := Host.absf main_arg3
  let main_cst_4 : FVec F S_ .f32 := constant S_ .f32 0x7F800000#32
  let main_v13 : FVec F S1024x256 .f32 := broadcastInDim S1024x256 ![] bcast_S_S1024x256 main_cst_4
  let main_v14 : IVec S1024x256 1 := cmpf .olt main_v12 main_v13
  let main_c_5 : IVec S_ 1 := constantI S_ 1 1#1
  let main_v15 : IVec S_ 1 := (fun x v => Host.reduce IntOp.andi x v reducesTo_S1024x256_S_d0_1 h_S_) main_v14 main_c_5
  fn_part1 (F := F) main_arg5 main_arg6 main_arg7 main_arg8 main_arg9 main_arg10 main_arg11 main_arg12 main_v3 main_v7 main_v11 main_v15
-- ==== Kernel.lean ====
abbrev S1x2048x1024 : Shape := ⟨3, ![1, 2048, 1024]⟩
abbrev S1024x1024 : Shape := ⟨2, ![1024, 1024]⟩
abbrev S1024x256 : Shape := ⟨2, ![1024, 256]⟩
abbrev S256x128x1x3 : Shape := ⟨4, ![256, 128, 1, 3]⟩
abbrev S256 : Shape := ⟨1, ![256]⟩
abbrev S128x64x1x3 : Shape := ⟨4, ![128, 64, 1, 3]⟩
abbrev S128 : Shape := ⟨1, ![128]⟩
abbrev S64x32x1x3 : Shape := ⟨4, ![64, 32, 1, 3]⟩
abbrev S64 : Shape := ⟨1, ![64]⟩
abbrev S4x16x1x1 : Shape := ⟨4, ![4, 16, 1, 1]⟩
abbrev S4 : Shape := ⟨1, ![4]⟩
abbrev S2048x1024 : Shape := ⟨2, ![2048, 1024]⟩
abbrev S_ : Shape := ⟨0, ![]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4x8192x64 : Shape := ⟨3, ![4, 8192, 64]⟩
abbrev S4x2048x64 : Shape := ⟨3, ![4, 2048, 64]⟩
abbrev S4x2048x128 : Shape := ⟨3, ![4, 2048, 128]⟩
abbrev S2048x512 : Shape := ⟨2, ![2048, 512]⟩
abbrev S256x1024 : Shape := ⟨2, ![256, 1024]⟩
abbrev S256x128 : Shape := ⟨2, ![256, 128]⟩
abbrev S4x1024x64 : Shape := ⟨3, ![4, 1024, 64]⟩
abbrev S4x256x64 : Shape := ⟨3, ![4, 256, 64]⟩
abbrev S4x256x128 : Shape := ⟨3, ![4, 256, 128]⟩
abbrev S256x512 : Shape := ⟨2, ![256, 512]⟩
abbrev S256x256 : Shape := ⟨2, ![256, 256]⟩
abbrev S256x992 : Shape := ⟨2, ![256, 992]⟩
abbrev S256x32 : Shape := ⟨2, ![256, 32]⟩
abbrev S256x224 : Shape := ⟨2, ![256, 224]⟩
abbrev S256x64 : Shape := ⟨2, ![256, 64]⟩
abbrev S1x256x64 : Shape := ⟨3, ![1, 256, 64]⟩
abbrev S256x1 : Shape := ⟨2, ![256, 1]⟩
abbrev S256x63 : Shape := ⟨2, ![256, 63]⟩
abbrev S1x256x128 : Shape := ⟨3, ![1, 256, 128]⟩
abbrev S256x128x3 : Shape := ⟨3, ![256, 128, 3]⟩
abbrev S3x128x256 : Shape := ⟨3, ![3, 128, 256]⟩
abbrev S128x64x3 : Shape := ⟨3, ![128, 64, 3]⟩
abbrev S3x64x128 : Shape := ⟨3, ![3, 64, 128]⟩
abbrev S64x32x3 : Shape := ⟨3, ![64, 32, 3]⟩
abbrev S3x32x64 : Shape := ⟨3, ![3, 32, 64]⟩
abbrev S4x16 : Shape := ⟨2, ![4, 16]⟩
abbrev S1x256 : Shape := ⟨2, ![1, 256]⟩
abbrev S1x128 : Shape := ⟨2, ![1, 128]⟩
abbrev S1x64 : Shape := ⟨2, ![1, 64]⟩
abbrev S1x4 : Shape := ⟨2, ![1, 4]⟩
abbrev S2048x4 : Shape := ⟨2, ![2048, 4]⟩
abbrev S2047x128 : Shape := ⟨2, ![2047, 128]⟩
abbrev S1x128x64 : Shape := ⟨3, ![1, 128, 64]⟩
abbrev S128x64 : Shape := ⟨2, ![128, 64]⟩
abbrev S2047x64 : Shape := ⟨2, ![2047, 64]⟩
abbrev S1x64x32 : Shape := ⟨3, ![1, 64, 32]⟩
abbrev S64x32 : Shape := ⟨2, ![64, 32]⟩
abbrev S2047x32 : Shape := ⟨2, ![2047, 32]⟩
abbrev S1x32x16 : Shape := ⟨3, ![1, 32, 16]⟩
abbrev S32x16 : Shape := ⟨2, ![32, 16]⟩
abbrev S2048x16 : Shape := ⟨2, ![2048, 16]⟩
abbrev S1x16 : Shape := ⟨2, ![1, 16]⟩
abbrev S1x1 : Shape := ⟨2, ![1, 1]⟩
abbrev S1x2048x128 : Shape := ⟨3, ![1, 2048, 128]⟩
abbrev S4x2048 : Shape := ⟨2, ![4, 2048]⟩
abbrev S4x1x2048 : Shape := ⟨3, ![4, 1, 2048]⟩
abbrev S4x256x1024 : Shape := ⟨3, ![4, 256, 1024]⟩
abbrev S1x1024x64 : Shape := ⟨3, ![1, 1024, 64]⟩
abbrev S1024x64 : Shape := ⟨2, ![1024, 64]⟩
abbrev S1024x128 : Shape := ⟨2, ![1024, 128]⟩
abbrev S1x1x256 : Shape := ⟨3, ![1, 1, 256]⟩
abbrev S1024x1 : Shape := ⟨2, ![1024, 1]⟩
abbrev S1x256x1024 : Shape := ⟨3, ![1, 256, 1024]⟩

abbrev nBuf : Space → Nat
  | .hbm => 72
  | .vmem => 38
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x256, .f32⟩
  | .hbm, ⟨3, _⟩ => ⟨S1024x256, .f32⟩
  | .hbm, ⟨4, _⟩ => ⟨S1024x1024, .f32⟩
  | .hbm, ⟨5, _⟩ => ⟨S256x128x1x3, .f32⟩
  | .hbm, ⟨6, _⟩ => ⟨S256, .f32⟩
  | .hbm, ⟨7, _⟩ => ⟨S128x64x1x3, .f32⟩
  | .hbm, ⟨8, _⟩ => ⟨S128, .f32⟩
  | .hbm, ⟨9, _⟩ => ⟨S64x32x1x3, .f32⟩
  | .hbm, ⟨10, _⟩ => ⟨S64, .f32⟩
  | .hbm, ⟨11, _⟩ => ⟨S4x16x1x1, .f32⟩
  | .hbm, ⟨12, _⟩ => ⟨S4, .f32⟩
  | .hbm, ⟨13, _⟩ => ⟨S2048x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S2048, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S2048x1, .f32⟩
  | .hbm, ⟨35, _⟩ => ⟨S1x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x64, .f32⟩
  | .hbm, ⟨42, _⟩ => ⟨S2048x32, .f32⟩
  | .hbm, ⟨43, _⟩ => ⟨S2048x32, .f32⟩
  | .hbm, ⟨44, _⟩ => ⟨S2048x64, .f32⟩
  | .hbm, ⟨45, _⟩ => ⟨S1x2048x1x64, .f32⟩
  | .hbm, ⟨46, _⟩ => ⟨S1x2048x2x64, .f32⟩
  | .hbm, ⟨47, _⟩ => ⟨S2048x128, .f32⟩
  | .hbm, ⟨48, _⟩ => ⟨S1x2048x1x64, .f32⟩
  | .hbm, ⟨49, _⟩ => ⟨S1x2048x2x64, .f32⟩
  | .hbm, ⟨50, _⟩ => ⟨S2048x128, .f32⟩
  | .hbm, ⟨51, _⟩ => ⟨S4x8192x64, .bf16⟩
  | .hbm, ⟨52, _⟩ => ⟨S4x2048x64, .bf16⟩
  | .hbm, ⟨53, _⟩ => ⟨S4x2048x128, .bf16⟩
  | .hbm, ⟨54, _⟩ => ⟨S2048x512, .f32⟩
  | .hbm, ⟨55, _⟩ => ⟨S256x128x3, .f32⟩
  | .hbm, ⟨56, _⟩ => ⟨S3x128x256, .f32⟩
  | .hbm, ⟨57, _⟩ => ⟨S128x64x3, .f32⟩
  | .hbm, ⟨58, _⟩ => ⟨S3x64x128, .f32⟩
  | .hbm, ⟨59, _⟩ => ⟨S64x32x3, .f32⟩
  | .hbm, ⟨60, _⟩ => ⟨S3x32x64, .f32⟩
  | .hbm, ⟨61, _⟩ => ⟨S4x16, .f32⟩
  | .hbm, ⟨62, _⟩ => ⟨S1x256, .f32⟩
  | .hbm, ⟨63, _⟩ => ⟨S1x128, .f32⟩
  | .hbm, ⟨64, _⟩ => ⟨S1x64, .f32⟩
  | .hbm, ⟨65, _⟩ => ⟨S1x4, .f32⟩
  | .hbm, ⟨66, _⟩ => ⟨S2048x4, .f32⟩
  | .hbm, ⟨67, _⟩ => ⟨S4x2048x128, .bf16⟩
  | .hbm, ⟨68, _⟩ => ⟨S4x2048, .f32⟩
  | .hbm, ⟨69, _⟩ => ⟨S4x1x2048, .f32⟩
  | .hbm, ⟨70, _⟩ => ⟨S4x256x1024, .f32⟩
  | .hbm, ⟨71, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x256, .f32⟩
  | .local _ .vmem, ⟨4, _⟩ => ⟨S1024x256, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S4x1024x64, .bf16⟩
  | .local _ .vmem, ⟨10, _⟩ => ⟨S4x1024x64, .bf16⟩
  | .local _ .vmem, ⟨11, _⟩ => ⟨S4x256x64, .bf16⟩
  | .local _ .vmem, ⟨12, _⟩ => ⟨S4x256x64, .bf16⟩
  | .local _ .vmem, ⟨13, _⟩ => ⟨S4x256x128, .bf16⟩
  | .local _ .vmem, ⟨14, _⟩ => ⟨S4x256x128, .bf16⟩
  | .local _ .vmem, ⟨15, _⟩ => ⟨S256x512, .f32⟩
  | .local _ .vmem, ⟨16, _⟩ => ⟨S256x512, .f32⟩
  | .local _ .vmem, ⟨17, _⟩ => ⟨S2048x512, .f32⟩
  | .local _ .vmem, ⟨18, _⟩ => ⟨S3x128x256, .f32⟩
  | .local _ .vmem, ⟨19, _⟩ => ⟨S3x64x128, .f32⟩
  | .local _ .vmem, ⟨20, _⟩ => ⟨S3x32x64, .f32⟩
  | .local _ .vmem, ⟨21, _⟩ => ⟨S4x16, .f32⟩
  | .local _ .vmem, ⟨22, _⟩ => ⟨S1x256, .f32⟩
  | .local _ .vmem, ⟨23, _⟩ => ⟨S1x128, .f32⟩
  | .local _ .vmem, ⟨24, _⟩ => ⟨S1x64, .f32⟩
  | .local _ .vmem, ⟨25, _⟩ => ⟨S1x4, .f32⟩
  | .local _ .vmem, ⟨26, _⟩ => ⟨S4x2048x128, .bf16⟩
  | .local _ .vmem, ⟨27, _⟩ => ⟨S2048x4, .f32⟩
  | .local _ .vmem, ⟨28, _⟩ => ⟨S4x2048x128, .bf16⟩
  | .local _ .vmem, ⟨29, _⟩ => ⟨S1x1024x64, .bf16⟩
  | .local _ .vmem, ⟨30, _⟩ => ⟨S1x1024x64, .bf16⟩
  | .local _ .vmem, ⟨31, _⟩ => ⟨S4x2048x64, .bf16⟩
  | .local _ .vmem, ⟨32, _⟩ => ⟨S4x2048x128, .bf16⟩
  | .local _ .vmem, ⟨33, _⟩ => ⟨S4x2048x128, .bf16⟩
  | .local _ .vmem, ⟨34, _⟩ => ⟨S4x1x2048, .f32⟩
  | .local _ .vmem, ⟨35, _⟩ => ⟨S4x256x1024, .f32⟩
  | .local _ .vmem, ⟨36, _⟩ => ⟨S256x1024, .f32⟩
  | .local _ .vmem, ⟨37, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32_0 : Ref sig .tc := ⟨.hbm, 51, rfl⟩
abbrev main_v32_1 : Ref sig .tc := ⟨.hbm, 52, rfl⟩
abbrev main_v32_2 : Ref sig .tc := ⟨.hbm, 53, rfl⟩
abbrev main_v32_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := .none

abbrev stage1_0 : Fin 1 → Memref sig .tc .vmem S2048x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S3x64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S3x32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S4x2048x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S2048x4 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S4x2048x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev grid2 : Pipeline.Grid := ⟨2, ![8, 4], ![false, false]⟩

@[reducible] def k2_t1_loop (i : grid2.Coords) : Scf.Loop 32 :=
  let c0_i32_2 : BitVec 32 := 0#32
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let v10 : BitVec 32 := Scalar.subi v9 c0_i32_2
  let c1_i32 : BitVec 32 := 1#32
  let v12 : BitVec 32 := Scalar.divsi v10 c1_i32
  let v13 : BitVec 32 := Scalar.muli v12 c1_i32
  let v14 : BitVec 32 := Scalar.addi c0_i32_2 v13
  let c1_i32_3 : BitVec 32 := 1#32
  ⟨c0_i32_2, v14, c1_i32_3⟩
def k2_off1 (i : grid2.Coords) (k2_t1 : Fin (k2_t1_loop i).trips) : Fin 3 → Nat :=
  let arg1 : BitVec 32 := BitVec.ofNat 32 (i 1).val
  let v45 : Index := Scalar.indexCast arg1
  let c0_i32_2 : BitVec 32 := 0#32
  let c1_i32_3 : BitVec 32 := 1#32
  let arg9 : BitVec 32 := Scf.iv c0_i32_2 c1_i32_3 k2_t1
  let c256_i32 : BitVec 32 := 256#32
  let v44 : BitVec 32 := Scalar.muli arg9 c256_i32
  let v46 : Index := Scalar.indexCast v44
  let c0_16 : Index := 0#32
  ![v45.toNat, v46.toNat, 0]
def k2_off2 (i : grid2.Coords) (k2_t1 : Fin (k2_t1_loop i).trips) : Fin 3 → Nat :=
  let arg1 : BitVec 32 := BitVec.ofNat 32 (i 1).val
  let v50 : Index := Scalar.indexCast arg1
  let c0_i32_2 : BitVec 32 := 0#32
  let c1_i32_3 : BitVec 32 := 1#32
  let arg9 : BitVec 32 := Scf.iv c0_i32_2 c1_i32_3 k2_t1
  let c256_i32_17 : BitVec 32 := 256#32
  let v49 : BitVec 32 := Scalar.muli arg9 c256_i32_17
  let v51 : Index := Scalar.indexCast v49
  let c0_18 : Index := 0#32
  ![v50.toNat, v51.toNat, 0]
@[reducible] def k2_t2_loop (i : grid2.Coords) : Scf.Loop 32 :=
  let c0_i32_2 : BitVec 32 := 0#32
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let v10 : BitVec 32 := Scalar.subi v9 c0_i32_2
  let c1_i32 : BitVec 32 := 1#32
  let v12 : BitVec 32 := Scalar.divsi v10 c1_i32
  let v13 : BitVec 32 := Scalar.muli v12 c1_i32
  let v14 : BitVec 32 := Scalar.addi c0_i32_2 v13
  let v11 : BitVec 32 := Scalar.addi c0_i32_2 v10
  let c1_i32_4 : BitVec 32 := 1#32
  ⟨v14, v11, c1_i32_4⟩
def k2_off3 (i : grid2.Coords) (k2_t2 : Fin (k2_t2_loop i).trips) : Fin 3 → Nat :=
  let arg1 : BitVec 32 := BitVec.ofNat 32 (i 1).val
  let v45 : Index := Scalar.indexCast arg1
  let c0_i32_2 : BitVec 32 := 0#32
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let v10 : BitVec 32 := Scalar.subi v9 c0_i32_2
  let c1_i32 : BitVec 32 := 1#32
  let v12 : BitVec 32 := Scalar.divsi v10 c1_i32
  let v13 : BitVec 32 := Scalar.muli v12 c1_i32
  let v14 : BitVec 32 := Scalar.addi c0_i32_2 v13
  let c1_i32_4 : BitVec 32 := 1#32
  let arg9 : BitVec 32 := Scf.iv v14 c1_i32_4 k2_t2
  let c256_i32 : BitVec 32 := 256#32
  let v44 : BitVec 32 := Scalar.muli arg9 c256_i32
  let v46 : Index := Scalar.indexCast v44
  let c0_16 : Index := 0#32
  ![v45.toNat, v46.toNat, 0]
def k2_off4 (i : grid2.Coords) (k2_t2 : Fin (k2_t2_loop i).trips) : Fin 3 → Nat :=
  let arg1 : BitVec 32 := BitVec.ofNat 32 (i 1).val
  let v50 : Index := Scalar.indexCast arg1
  let c0_i32_2 : BitVec 32 := 0#32
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let v10 : BitVec 32 := Scalar.subi v9 c0_i32_2
  let c1_i32 : BitVec 32 := 1#32
  let v12 : BitVec 32 := Scalar.divsi v10 c1_i32
  let v13 : BitVec 32 := Scalar.muli v12 c1_i32
  let v14 : BitVec 32 := Scalar.addi c0_i32_2 v13
  let c1_i32_4 : BitVec 32 := 1#32
  let arg9 : BitVec 32 := Scf.iv v14 c1_i32_4 k2_t2
  let c256_i32_17 : BitVec 32 := 256#32
  let v49 : BitVec 32 := Scalar.muli arg9 c256_i32_17
  let v51 : Index := Scalar.indexCast v49
  let c0_18 : Index := 0#32
  ![v50.toNat, v51.toNat, 0]
@[reducible] def k2_t3_loop (i : grid2.Coords) : Scf.Loop 32 :=
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let c1_i32_5 : BitVec 32 := 1#32
  let v17 : BitVec 32 := Scalar.addi arg0 c1_i32_5
  let v18 : BitVec 32 := Scalar.subi v17 v9
  let c1_i32_6 : BitVec 32 := 1#32
  let v20 : BitVec 32 := Scalar.divsi v18 c1_i32_6
  let v21 : BitVec 32 := Scalar.muli v20 c1_i32_6
  let v22 : BitVec 32 := Scalar.addi v9 v21
  let c1_i32_7 : BitVec 32 := 1#32
  ⟨v9, v22, c1_i32_7⟩
def k2_off5 (i : grid2.Coords) (k2_t3 : Fin (k2_t3_loop i).trips) : Fin 3 → Nat :=
  let arg1 : BitVec 32 := BitVec.ofNat 32 (i 1).val
  let v45 : Index := Scalar.indexCast arg1
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let c1_i32_7 : BitVec 32 := 1#32
  let arg9 : BitVec 32 := Scf.iv v9 c1_i32_7 k2_t3
  let c256_i32 : BitVec 32 := 256#32
  let v44 : BitVec 32 := Scalar.muli arg9 c256_i32
  let v46 : Index := Scalar.indexCast v44
  let c0_16 : Index := 0#32
  ![v45.toNat, v46.toNat, 0]
def k2_off6 (i : grid2.Coords) (k2_t3 : Fin (k2_t3_loop i).trips) : Fin 3 → Nat :=
  let arg1 : BitVec 32 := BitVec.ofNat 32 (i 1).val
  let v50 : Index := Scalar.indexCast arg1
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let c1_i32_7 : BitVec 32 := 1#32
  let arg9 : BitVec 32 := Scf.iv v9 c1_i32_7 k2_t3
  let c256_i32_17 : BitVec 32 := 256#32
  let v49 : BitVec 32 := Scalar.muli arg9 c256_i32_17
  let v51 : Index := Scalar.indexCast v49
  let c0_18 : Index := 0#32
  ![v50.toNat, v51.toNat, 0]
def k2_off7 (i : grid2.Coords) (k2_t3 : Fin (k2_t3_loop i).trips) : Fin 3 → Nat :=
  let arg1 : BitVec 32 := BitVec.ofNat 32 (i 1).val
  let v56 : Index := Scalar.indexCast arg1
  let c0_21 : Index := 0#32
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let c1_i32_7 : BitVec 32 := 1#32
  let arg9 : BitVec 32 := Scf.iv v9 c1_i32_7 k2_t3
  let c256_i32_20 : BitVec 32 := 256#32
  let v55 : BitVec 32 := Scalar.muli arg9 c256_i32_20
  let v57 : Index := Scalar.indexCast v55
  ![v56.toNat, 0, v57.toNat]
@[reducible] def k2_t4_loop (i : grid2.Coords) : Scf.Loop 32 :=
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let c1_i32_5 : BitVec 32 := 1#32
  let v17 : BitVec 32 := Scalar.addi arg0 c1_i32_5
  let v18 : BitVec 32 := Scalar.subi v17 v9
  let c1_i32_6 : BitVec 32 := 1#32
  let v20 : BitVec 32 := Scalar.divsi v18 c1_i32_6
  let v21 : BitVec 32 := Scalar.muli v20 c1_i32_6
  let v22 : BitVec 32 := Scalar.addi v9 v21
  let v19 : BitVec 32 := Scalar.addi v9 v18
  let c1_i32_8 : BitVec 32 := 1#32
  ⟨v22, v19, c1_i32_8⟩
def k2_off8 (i : grid2.Coords) (k2_t4 : Fin (k2_t4_loop i).trips) : Fin 3 → Nat :=
  let arg1 : BitVec 32 := BitVec.ofNat 32 (i 1).val
  let v45 : Index := Scalar.indexCast arg1
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let c1_i32_5 : BitVec 32 := 1#32
  let v17 : BitVec 32 := Scalar.addi arg0 c1_i32_5
  let v18 : BitVec 32 := Scalar.subi v17 v9
  let c1_i32_6 : BitVec 32 := 1#32
  let v20 : BitVec 32 := Scalar.divsi v18 c1_i32_6
  let v21 : BitVec 32 := Scalar.muli v20 c1_i32_6
  let v22 : BitVec 32 := Scalar.addi v9 v21
  let c1_i32_8 : BitVec 32 := 1#32
  let arg9 : BitVec 32 := Scf.iv v22 c1_i32_8 k2_t4
  let c256_i32 : BitVec 32 := 256#32
  let v44 : BitVec 32 := Scalar.muli arg9 c256_i32
  let v46 : Index := Scalar.indexCast v44
  let c0_16 : Index := 0#32
  ![v45.toNat, v46.toNat, 0]
def k2_off9 (i : grid2.Coords) (k2_t4 : Fin (k2_t4_loop i).trips) : Fin 3 → Nat :=
  let arg1 : BitVec 32 := BitVec.ofNat 32 (i 1).val
  let v50 : Index := Scalar.indexCast arg1
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let c1_i32_5 : BitVec 32 := 1#32
  let v17 : BitVec 32 := Scalar.addi arg0 c1_i32_5
  let v18 : BitVec 32 := Scalar.subi v17 v9
  let c1_i32_6 : BitVec 32 := 1#32
  let v20 : BitVec 32 := Scalar.divsi v18 c1_i32_6
  let v21 : BitVec 32 := Scalar.muli v20 c1_i32_6
  let v22 : BitVec 32 := Scalar.addi v9 v21
  let c1_i32_8 : BitVec 32 := 1#32
  let arg9 : BitVec 32 := Scf.iv v22 c1_i32_8 k2_t4
  let c256_i32_17 : BitVec 32 := 256#32
  let v49 : BitVec 32 := Scalar.muli arg9 c256_i32_17
  let v51 : Index := Scalar.indexCast v49
  let c0_18 : Index := 0#32
  ![v50.toNat, v51.toNat, 0]
def k2_off10 (i : grid2.Coords) (k2_t4 : Fin (k2_t4_loop i).trips) : Fin 3 → Nat :=
  let arg1 : BitVec 32 := BitVec.ofNat 32 (i 1).val
  let v56 : Index := Scalar.indexCast arg1
  let c0_21 : Index := 0#32
  let arg0 : BitVec 32 := BitVec.ofNat 32 (i 0).val
  let c2_i32 : BitVec 32 := 2#32
  let v8 : BitVec 32 := Scalar.subi arg0 c2_i32
  let c0_i32 : BitVec 32 := 0#32
  let v9 : BitVec 32 := Scalar.maxsi v8 c0_i32
  let c1_i32_5 : BitVec 32 := 1#32
  let v17 : BitVec 32 := Scalar.addi arg0 c1_i32_5
  let v18 : BitVec 32 := Scalar.subi v17 v9
  let c1_i32_6 : BitVec 32 := 1#32
  let v20 : BitVec 32 := Scalar.divsi v18 c1_i32_6
  let v21 : BitVec 32 := Scalar.muli v20 c1_i32_6
  let v22 : BitVec 32 := Scalar.addi v9 v21
  let c1_i32_8 : BitVec 32 := 1#32
  let arg9 : BitVec 32 := Scf.iv v22 c1_i32_8 k2_t4
  let c256_i32_20 : BitVec 32 := 256#32
  let v55 : BitVec 32 := Scalar.muli arg9 c256_i32_20
  let v57 : Index := Scalar.indexCast v55
  ![v56.toNat, 0, v57.toNat]
def k2_off11 (i : grid2.Coords) : Fin 3 → Nat :=
  let arg1 : BitVec 32 := BitVec.ofNat 32 (i 1).val
  let v34 : Index := Scalar.indexCast arg1
  let c0_9 : Index := 0#32
  let c0_10 : Index := 0#32
  ![v34.toNat, 0, 0]
def k2_cond1 (i : grid2.Coords) : BitVec 1 :=
  let arg1 : BitVec 32 := BitVec.ofNat 32 (i 1).val
  let c0_i32_12 : BitVec 32 := 0#32
  let v38 : BitVec 1 := Scalar.cmpi .eq arg1 c0_i32_12
  let v39 : BitVec 32 := Scalar.extui v38
  let c0_i32_13 : BitVec 32 := 0#32
  let v40 : BitVec 1 := Scalar.cmpi .ne v39 c0_i32_13
  v40

def k2_cond2 (i : grid2.Coords) : BitVec 1 :=
  let arg1 : BitVec 32 := BitVec.ofNat 32 (i 1).val
  let c0_i32_14 : BitVec 32 := 0#32
  let v41 : BitVec 1 := Scalar.cmpi .sgt arg1 c0_i32_14
  let v42 : BitVec 32 := Scalar.extui v41
  let c0_i32_15 : BitVec 32 := 0#32
  let v43 : BitVec 1 := Scalar.cmpi .ne v42 c0_i32_15
  v43

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4x2048x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S4x2048x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S4x2048x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S4x1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S4x256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]
-- ==== KernelIdeal.lean ====
variable {F : FTy → Type} [FloatOps F] [Named F]
def κ : String → Option EReal := fun
  | "maskK" => some ⊥
  | _ => none
-- ==== ReferenceIdeal.lean ====
abbrev S1x2048x1024 : Shape := ⟨3, ![1, 2048, 1024]⟩
abbrev S1024x1024 : Shape := ⟨2, ![1024, 1024]⟩
abbrev S1024x256 : Shape := ⟨2, ![1024, 256]⟩
abbrev S256x128x1x3 : Shape := ⟨4, ![256, 128, 1, 3]⟩
abbrev S256 : Shape := ⟨1, ![256]⟩
abbrev S128x64x1x3 : Shape := ⟨4, ![128, 64, 1, 3]⟩
abbrev S128 : Shape := ⟨1, ![128]⟩
abbrev S64x32x1x3 : Shape := ⟨4, ![64, 32, 1, 3]⟩
abbrev S64 : Shape := ⟨1, ![64]⟩
abbrev S4x16x1x1 : Shape := ⟨4, ![4, 16, 1, 1]⟩
abbrev S4 : Shape := ⟨1, ![4]⟩
abbrev S1x2048x16x64 : Shape := ⟨4, ![1, 2048, 16, 64]⟩
abbrev S1x2048x256 : Shape := ⟨3, ![1, 2048, 256]⟩
abbrev S1x2048x4x64 : Shape := ⟨4, ![1, 2048, 4, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x16x32 : Shape := ⟨4, ![1, 2048, 16, 32]⟩
abbrev S1x2048x4x32 : Shape := ⟨4, ![1, 2048, 4, 32]⟩
abbrev S1x2048x4x128 : Shape := ⟨4, ![1, 2048, 4, 128]⟩
abbrev S2048x512 : Shape := ⟨2, ![2048, 512]⟩
abbrev S2050x512 : Shape := ⟨2, ![2050, 512]⟩
abbrev S2048x4x128 : Shape := ⟨3, ![2048, 4, 128]⟩
abbrev S256x128x1x1 : Shape := ⟨4, ![256, 128, 1, 1]⟩
abbrev S256x128 : Shape := ⟨2, ![256, 128]⟩
abbrev S4x64x128 : Shape := ⟨3, ![4, 64, 128]⟩
abbrev S4x64x2048 : Shape := ⟨3, ![4, 64, 2048]⟩
abbrev S2048x4x64 : Shape := ⟨3, ![2048, 4, 64]⟩
abbrev S2048x256 : Shape := ⟨2, ![2048, 256]⟩
abbrev S1x256 : Shape := ⟨2, ![1, 256]⟩
abbrev S2050x256 : Shape := ⟨2, ![2050, 256]⟩
abbrev S128x64x1x1 : Shape := ⟨4, ![128, 64, 1, 1]⟩
abbrev S128x64 : Shape := ⟨2, ![128, 64]⟩
abbrev S4x32x64 : Shape := ⟨3, ![4, 32, 64]⟩
abbrev S4x32x2048 : Shape := ⟨3, ![4, 32, 2048]⟩
abbrev S2048x4x32 : Shape := ⟨3, ![2048, 4, 32]⟩
abbrev S2048x128 : Shape := ⟨2, ![2048, 128]⟩
abbrev S1x128 : Shape := ⟨2, ![1, 128]⟩
abbrev S2050x128 : Shape := ⟨2, ![2050, 128]⟩
abbrev S64x32x1x1 : Shape := ⟨4, ![64, 32, 1, 1]⟩
abbrev S64x32 : Shape := ⟨2, ![64, 32]⟩
abbrev S4x16x32 : Shape := ⟨3, ![4, 16, 32]⟩
abbrev S4x16x2048 : Shape := ⟨3, ![4, 16, 2048]⟩
abbrev S2048x4x16 : Shape := ⟨3, ![2048, 4, 16]⟩
abbrev S1x64 : Shape := ⟨2, ![1, 64]⟩
abbrev S4x16 : Shape := ⟨2, ![4, 16]⟩
abbrev S4x1x16 : Shape := ⟨3, ![4, 1, 16]⟩
abbrev S4x1x2048 : Shape := ⟨3, ![4, 1, 2048]⟩
abbrev S2048x4x1 : Shape := ⟨3, ![2048, 4, 1]⟩
abbrev S2048x4 : Shape := ⟨2, ![2048, 4]⟩
abbrev S1x4 : Shape := ⟨2, ![1, 4]⟩
abbrev S1x2048x4 : Shape := ⟨3, ![1, 2048, 4]⟩
abbrev S1x2048x1 : Shape := ⟨3, ![1, 2048, 1]⟩
abbrev S1x2048x4x1 : Shape := ⟨4, ![1, 2048, 4, 1]⟩
abbrev S1x2048x4x4x64 : Shape := ⟨5, ![1, 2048, 4, 4, 64]⟩
abbrev S1x2048x4x4 : Shape := ⟨4, ![1, 2048, 4, 4]⟩
abbrev S1x2048x16 : Shape := ⟨3, ![1, 2048, 16]⟩
abbrev S1x16x2048x64 : Shape := ⟨4, ![1, 16, 2048, 64]⟩
abbrev S1x16x2048x2048 : Shape := ⟨4, ![1, 16, 2048, 2048]⟩
abbrev S1x2048 : Shape := ⟨2, ![1, 2048]⟩
abbrev S2048x2048 : Shape := ⟨2, ![2048, 2048]⟩
abbrev S1x16x2048 : Shape := ⟨3, ![1, 16, 2048]⟩
abbrev S1x16x1x2048 : Shape := ⟨4, ![1, 16, 1, 2048]⟩
abbrev S1x1x2048x2048 : Shape := ⟨4, ![1, 1, 2048, 2048]⟩
abbrev S1x16x2048x1 : Shape := ⟨4, ![1, 16, 2048, 1]⟩
abbrev S2048x1024 : Shape := ⟨2, ![2048, 1024]⟩

abbrev nBuf : Space → Nat
  | .hbm => 323
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024x256, .f32⟩
  | 3 => ⟨S1024x256, .f32⟩
  | 4 => ⟨S1024x1024, .f32⟩
  | 5 => ⟨S256x128x1x3, .f32⟩
  | 6 => ⟨S256, .f32⟩
  | 7 => ⟨S128x64x1x3, .f32⟩
  | 8 => ⟨S128, .f32⟩
  | 9 => ⟨S64x32x1x3, .f32⟩
  | 10 => ⟨S64, .f32⟩
  | 11 => ⟨S4x16x1x1, .f32⟩
  | 12 => ⟨S4, .f32⟩
  | 13 => ⟨S1x2048x1024, .f32⟩
  | 14 => ⟨S1x2048x16x64, .f32⟩
  | 15 => ⟨S1x2048x256, .f32⟩
  | 16 => ⟨S1x2048x4x64, .f32⟩
  | 17 => ⟨S1x2048x256, .f32⟩
  | 18 => ⟨S1x2048x4x64, .f32⟩
  | 19 => ⟨S2048, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S2048x1, .f32⟩
  | 37 => ⟨S1x32, .f32⟩
  | 38 => ⟨S2048x32, .f32⟩
  | 39 => ⟨S2048x32, .f32⟩
  | 40 => ⟨S2048x32, .f32⟩
  | 41 => ⟨S2048x32, .f32⟩
  | 42 => ⟨S2048x32, .f32⟩
  | 43 => ⟨S2048x64, .f32⟩
  | 44 => ⟨S1x2048x1x64, .f32⟩
  | 45 => ⟨S2048x32, .f32⟩
  | 46 => ⟨S2048x32, .f32⟩
  | 47 => ⟨S2048x64, .f32⟩
  | 48 => ⟨S1x2048x1x64, .f32⟩
  | 49 => ⟨S1x2048x16x32, .f32⟩
  | 50 => ⟨S1x2048x16x32, .f32⟩
  | 51 => ⟨S1x2048x16x32, .f32⟩
  | 52 => ⟨S1x2048x16x64, .f32⟩
  | 53 => ⟨S1x2048x16x64, .f32⟩
  | 54 => ⟨S1x2048x16x64, .f32⟩
  | 55 => ⟨S1x2048x16x64, .f32⟩
  | 56 => ⟨S1x2048x16x64, .f32⟩
  | 57 => ⟨S1x2048x16x64, .f32⟩
  | 58 => ⟨S2048, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S2048x1, .f32⟩
  | 76 => ⟨S1x32, .f32⟩
  | 77 => ⟨S2048x32, .f32⟩
  | 78 => ⟨S2048x32, .f32⟩
  | 79 => ⟨S2048x32, .f32⟩
  | 80 => ⟨S2048x32, .f32⟩
  | 81 => ⟨S2048x32, .f32⟩
  | 82 => ⟨S2048x64, .f32⟩
  | 83 => ⟨S1x2048x1x64, .f32⟩
  | 84 => ⟨S2048x32, .f32⟩
  | 85 => ⟨S2048x32, .f32⟩
  | 86 => ⟨S2048x64, .f32⟩
  | 87 => ⟨S1x2048x1x64, .f32⟩
  | 88 => ⟨S1x2048x4x32, .f32⟩
  | 89 => ⟨S1x2048x4x32, .f32⟩
  | 90 => ⟨S1x2048x4x32, .f32⟩
  | 91 => ⟨S1x2048x4x64, .f32⟩
  | 92 => ⟨S1x2048x4x64, .f32⟩
  | 93 => ⟨S1x2048x4x64, .f32⟩
  | 94 => ⟨S1x2048x4x64, .f32⟩
  | 95 => ⟨S1x2048x4x64, .f32⟩
  | 96 => ⟨S1x2048x4x64, .f32⟩
  | 97 => ⟨S1x2048x4x128, .f32⟩
  | 98 => ⟨S2048x512, .f32⟩
  | 99 => ⟨S_, .i32⟩
  | 100 => ⟨S_, .f32⟩
  | 101 => ⟨S2050x512, .f32⟩
  | 102 => ⟨S2048x512, .f32⟩
  | 103 => ⟨S2048x4x128, .f32⟩
  | 104 => ⟨S256x128x1x1, .f32⟩
  | 105 => ⟨S256x128, .f32⟩
  | 106 => ⟨S4x64x128, .f32⟩
  | 107 => ⟨S4x64x2048, .f32⟩
  | 108 => ⟨S2048x4x64, .f32⟩
  | 109 => ⟨S_, .f32⟩
  | 110 => ⟨S2048x4x64, .f32⟩
  | 111 => ⟨S2048x4x64, .f32⟩
  | 112 => ⟨S2048x512, .f32⟩
  | 113 => ⟨S2048x4x128, .f32⟩
  | 114 => ⟨S256x128x1x1, .f32⟩
  | 115 => ⟨S256x128, .f32⟩
  | 116 => ⟨S4x64x128, .f32⟩
  | 117 => ⟨S4x64x2048, .f32⟩
  | 118 => ⟨S2048x4x64, .f32⟩
  | 119 => ⟨S2048x4x64, .f32⟩
  | 120 => ⟨S2048x512, .f32⟩
  | 121 => ⟨S2048x4x128, .f32⟩
  | 122 => ⟨S256x128x1x1, .f32⟩
  | 123 => ⟨S256x128, .f32⟩
  | 124 => ⟨S4x64x128, .f32⟩
  | 125 => ⟨S4x64x2048, .f32⟩
  | 126 => ⟨S2048x4x64, .f32⟩
  | 127 => ⟨S2048x4x64, .f32⟩
  | _ => ⟨S1x2048x1024, .f32⟩

abbrev hbmTy0_1 (i : Nat) : BufTy := match i % 128 with
  | 0 => ⟨S2048x256, .f32⟩
  | 1 => ⟨S1x256, .f32⟩
  | 2 => ⟨S2048x256, .f32⟩
  | 3 => ⟨S2048x256, .f32⟩
  | 4 => ⟨S2048x256, .f32⟩
  | 5 => ⟨S2048x256, .f32⟩
  | 6 => ⟨S_, .f32⟩
  | 7 => ⟨S2048x256, .f32⟩
  | 8 => ⟨S2048x256, .f32⟩
  | 9 => ⟨S_, .f32⟩
  | 10 => ⟨S2048x256, .f32⟩
  | 11 => ⟨S2048x256, .f32⟩
  | 12 => ⟨S2048x256, .f32⟩
  | 13 => ⟨S_, .i32⟩
  | 14 => ⟨S_, .f32⟩
  | 15 => ⟨S2050x256, .f32⟩
  | 16 => ⟨S2048x256, .f32⟩
  | 17 => ⟨S2048x4x64, .f32⟩
  | 18 => ⟨S128x64x1x1, .f32⟩
  | 19 => ⟨S128x64, .f32⟩
  | 20 => ⟨S4x32x64, .f32⟩
  | 21 => ⟨S4x32x2048, .f32⟩
  | 22 => ⟨S2048x4x32, .f32⟩
  | 23 => ⟨S_, .f32⟩
  | 24 => ⟨S2048x4x32, .f32⟩
  | 25 => ⟨S2048x4x32, .f32⟩
  | 26 => ⟨S2048x256, .f32⟩
  | 27 => ⟨S2048x4x64, .f32⟩
  | 28 => ⟨S128x64x1x1, .f32⟩
  | 29 => ⟨S128x64, .f32⟩
  | 30 => ⟨S4x32x64, .f32⟩
  | 31 => ⟨S4x32x2048, .f32⟩
  | 32 => ⟨S2048x4x32, .f32⟩
  | 33 => ⟨S2048x4x32, .f32⟩
  | 34 => ⟨S2048x256, .f32⟩
  | 35 => ⟨S2048x4x64, .f32⟩
  | 36 => ⟨S128x64x1x1, .f32⟩
  | 37 => ⟨S128x64, .f32⟩
  | 38 => ⟨S4x32x64, .f32⟩
  | 39 => ⟨S4x32x2048, .f32⟩
  | 40 => ⟨S2048x4x32, .f32⟩
  | 41 => ⟨S2048x4x32, .f32⟩
  | 42 => ⟨S2048x128, .f32⟩
  | 43 => ⟨S1x128, .f32⟩
  | 44 => ⟨S2048x128, .f32⟩
  | 45 => ⟨S2048x128, .f32⟩
  | 46 => ⟨S2048x128, .f32⟩
  | 47 => ⟨S2048x128, .f32⟩
  | 48 => ⟨S_, .f32⟩
  | 49 => ⟨S2048x128, .f32⟩
  | 50 => ⟨S2048x128, .f32⟩
  | 51 => ⟨S_, .f32⟩
  | 52 => ⟨S2048x128, .f32⟩
  | 53 => ⟨S2048x128, .f32⟩
  | 54 => ⟨S2048x128, .f32⟩
  | 55 => ⟨S_, .i32⟩
  | 56 => ⟨S_, .f32⟩
  | 57 => ⟨S2050x128, .f32⟩
  | 58 => ⟨S2048x128, .f32⟩
  | 59 => ⟨S2048x4x32, .f32⟩
  | 60 => ⟨S64x32x1x1, .f32⟩
  | 61 => ⟨S64x32, .f32⟩
  | 62 => ⟨S4x16x32, .f32⟩
  | 63 => ⟨S4x16x2048, .f32⟩
  | 64 => ⟨S2048x4x16, .f32⟩
  | 65 => ⟨S_, .f32⟩
  | 66 => ⟨S2048x4x16, .f32⟩
  | 67 => ⟨S2048x4x16, .f32⟩
  | 68 => ⟨S2048x128, .f32⟩
  | 69 => ⟨S2048x4x32, .f32⟩
  | 70 => ⟨S64x32x1x1, .f32⟩
  | 71 => ⟨S64x32, .f32⟩
  | 72 => ⟨S4x16x32, .f32⟩
  | 73 => ⟨S4x16x2048, .f32⟩
  | 74 => ⟨S2048x4x16, .f32⟩
  | 75 => ⟨S2048x4x16, .f32⟩
  | 76 => ⟨S2048x128, .f32⟩
  | 77 => ⟨S2048x4x32, .f32⟩
  | 78 => ⟨S64x32x1x1, .f32⟩
  | 79 => ⟨S64x32, .f32⟩
  | 80 => ⟨S4x16x32, .f32⟩
  | 81 => ⟨S4x16x2048, .f32⟩
  | 82 => ⟨S2048x4x16, .f32⟩
  | 83 => ⟨S2048x4x16, .f32⟩
  | 84 => ⟨S2048x64, .f32⟩
  | 85 => ⟨S1x64, .f32⟩
  | 86 => ⟨S2048x64, .f32⟩
  | 87 => ⟨S2048x64, .f32⟩
  | 88 => ⟨S2048x64, .f32⟩
  | 89 => ⟨S2048x64, .f32⟩
  | 90 => ⟨S_, .f32⟩
  | 91 => ⟨S2048x64, .f32⟩
  | 92 => ⟨S2048x64, .f32⟩
  | 93 => ⟨S_, .f32⟩
  | 94 => ⟨S2048x64, .f32⟩
  | 95 => ⟨S2048x64, .f32⟩
  | 96 => ⟨S2048x64, .f32⟩
  | 97 => ⟨S_, .i32⟩
  | 98 => ⟨S_, .f32⟩
  | 99 => ⟨S2048x64, .f32⟩
  | 100 => ⟨S2048x4x16, .f32⟩
  | 101 => ⟨S4x16, .f32⟩
  | 102 => ⟨S4x1x16, .f32⟩
  | 103 => ⟨S4x1x2048, .f32⟩
  | 104 => ⟨S2048x4x1, .f32⟩
  | 105 => ⟨S_, .f32⟩
  | 106 => ⟨S2048x4x1, .f32⟩
  | 107 => ⟨S2048x4x1, .f32⟩
  | 108 => ⟨S2048x4, .f32⟩
  | 109 => ⟨S1x4, .f32⟩
  | 110 => ⟨S2048x4, .f32⟩
  | 111 => ⟨S2048x4, .f32⟩
  | 112 => ⟨S1x2048x4, .f32⟩
  | 113 => ⟨S_, .f32⟩
  | 114 => ⟨S1x2048x4, .f32⟩
  | 115 => ⟨S1x2048x4, .f32⟩
  | 116 => ⟨S2048, .i32⟩
  | 117 => ⟨S_, .f32⟩
  | 118 => ⟨S1x2048x4, .f32⟩
  | 119 => ⟨S1x2048x4, .i1⟩
  | 120 => ⟨S1x2048x1, .i32⟩
  | 121 => ⟨S_, .i32⟩
  | 122 => ⟨S1x2048x1, .i32⟩
  | 123 => ⟨S1x2048x1, .i1⟩
  | 124 => ⟨S1x2048x4, .i1⟩
  | 125 => ⟨S1x2048x4, .i1⟩
  | 126 => ⟨S_, .f32⟩
  | 127 => ⟨S1x2048x4, .f32⟩
  | _ => ⟨S1x2048x1024, .f32⟩

abbrev hbmTy0_2 (i : Nat) : BufTy := match i % 128 with
  | 0 => ⟨S1x2048x4, .f32⟩
  | 1 => ⟨S1x2048x4, .f32⟩
  | 2 => ⟨S1x2048x4x1, .f32⟩
  | 3 => ⟨S1x2048x4x64, .f32⟩
  | 4 => ⟨S1x2048x4x64, .f32⟩
  | 5 => ⟨S1x2048x4x4x64, .f32⟩
  | 6 => ⟨S1x2048x16x64, .f32⟩
  | 7 => ⟨S1x2048x4x4x64, .f32⟩
  | 8 => ⟨S1x2048x16x64, .f32⟩
  | 9 => ⟨S1x2048x4x4, .i1⟩
  | 10 => ⟨S1x2048x16, .i1⟩
  | 11 => ⟨S1x16x2048x64, .f32⟩
  | 12 => ⟨S1x16x2048x64, .f32⟩
  | 13 => ⟨S1x16x2048x64, .f32⟩
  | 14 => ⟨S1x16x2048x2048, .f32⟩
  | 15 => ⟨S_, .f32⟩
  | 16 => ⟨S1x16x2048x2048, .f32⟩
  | 17 => ⟨S1x16x2048x2048, .f32⟩
  | 18 => ⟨S2048x1, .i32⟩
  | 19 => ⟨S1x2048, .i32⟩
  | 20 => ⟨S2048x2048, .i32⟩
  | 21 => ⟨S2048x2048, .i32⟩
  | 22 => ⟨S2048x2048, .i1⟩
  | 23 => ⟨S2048x2048, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S_, .i32⟩
  | 30 => ⟨S1x2048, .i32⟩
  | 31 => ⟨S1x2048, .i1⟩
  | 32 => ⟨S2048x2048, .i1⟩
  | 33 => ⟨S2048x2048, .i1⟩
  | 34 => ⟨S2048x2048, .i1⟩
  | 35 => ⟨S1x16x2048, .i1⟩
  | 36 => ⟨S1x16x1x2048, .i1⟩
  | 37 => ⟨S1x1x2048x2048, .i1⟩
  | 38 => ⟨S1x1x2048x2048, .i1⟩
  | 39 => ⟨S1x16x2048x2048, .i1⟩
  | 40 => ⟨S1x16x2048x2048, .i1⟩
  | 41 => ⟨S1x16x2048x2048, .i1⟩
  | 42 => ⟨S1x16x2048x2048, .i1⟩
  | 43 => ⟨S1x16x2048x2048, .i1⟩
  | 44 => ⟨S_, .f32⟩
  | 45 => ⟨S_, .f32⟩
  | 46 => ⟨S1x16x2048x2048, .f32⟩
  | 47 => ⟨S1x16x2048x2048, .f32⟩
  | 48 => ⟨S_, .f32⟩
  | 49 => ⟨S1x16x2048, .f32⟩
  | 50 => ⟨S_, .f32⟩
  | 51 => ⟨S1x16x2048, .f32⟩
  | 52 => ⟨S1x16x2048, .f32⟩
  | 53 => ⟨S1x16x2048x1, .f32⟩
  | 54 => ⟨S1x16x2048x2048, .f32⟩
  | 55 => ⟨S1x16x2048x2048, .f32⟩
  | 56 => ⟨S1x16x2048x2048, .f32⟩
  | 57 => ⟨S_, .f32⟩
  | 58 => ⟨S1x16x2048, .f32⟩
  | 59 => ⟨S1x16x2048x1, .f32⟩
  | 60 => ⟨S1x16x2048x2048, .f32⟩
  | 61 => ⟨S1x16x2048x2048, .f32⟩
  | 62 => ⟨S1x16x2048x64, .f32⟩
  | 63 => ⟨S1x2048x16x64, .f32⟩
  | 64 => ⟨S1x2048x1024, .f32⟩
  | 65 => ⟨S1x2048x1024, .f32⟩
  | 66 => ⟨S2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c : Ref sig .tc := ⟨.hbm, 99, rfl⟩
abbrev main_call0_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_9 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_10 : Ref sig .tc := ⟨.hbm, 134, rfl⟩
abbrev main_v108 : Ref sig .tc := ⟨.hbm, 135, rfl⟩
abbrev main_v109 : Ref sig .tc := ⟨.hbm, 136, rfl⟩
abbrev main_cst_11 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_c_12 : Ref sig .tc := ⟨.hbm, 141, rfl⟩
abbrev main_call1_v0 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_13 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_14 : Ref sig .tc := ⟨.hbm, 176, rfl⟩
abbrev main_v145 : Ref sig .tc := ⟨.hbm, 177, rfl⟩
abbrev main_v146 : Ref sig .tc := ⟨.hbm, 178, rfl⟩
abbrev main_cst_15 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_c_16 : Ref sig .tc := ⟨.hbm, 183, rfl⟩
abbrev main_call2_v0 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_17 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_cst_18 : Ref sig .tc := ⟨.hbm, 218, rfl⟩
abbrev main_v182 : Ref sig .tc := ⟨.hbm, 219, rfl⟩
abbrev main_v183 : Ref sig .tc := ⟨.hbm, 220, rfl⟩
abbrev main_cst_19 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_c_20 : Ref sig .tc := ⟨.hbm, 225, rfl⟩
abbrev main_call3_v0 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_cst_21 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_call4_cst : Ref sig .tc := ⟨.hbm, 241, rfl⟩
abbrev main_call4_v0 : Ref sig .tc := ⟨.hbm, 242, rfl⟩
abbrev main_v200 : Ref sig .tc := ⟨.hbm, 243, rfl⟩
abbrev main_v201 : Ref sig .tc := ⟨.hbm, 244, rfl⟩
abbrev main_cst_22 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_c_23 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_cst_24 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_cst_25 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_c_26 : Ref sig .tc := ⟨.hbm, 282, rfl⟩
abbrev main_v235 : Ref sig .tc := ⟨.hbm, 283, rfl⟩
abbrev main_v236 : Ref sig .tc := ⟨.hbm, 284, rfl⟩
abbrev main_c_27 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_cst_28 : Ref sig .tc := ⟨.hbm, 300, rfl⟩
abbrev main_call5_v0 : Ref sig .tc := ⟨.hbm, 301, rfl⟩
abbrev main_call5_v1 : Ref sig .tc := ⟨.hbm, 302, rfl⟩
abbrev main_v251 : Ref sig .tc := ⟨.hbm, 303, rfl⟩
abbrev main_cst_29 : Ref sig .tc := ⟨.hbm, 304, rfl⟩
abbrev main_v252 : Ref sig .tc := ⟨.hbm, 305, rfl⟩
abbrev main_cst_30 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_cst_31 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩

abbrev nD : Nat := 1
abbrev τ : Topo := Topo.v7x

variable {F : FTy → Type} [FloatOps F]
-- ==== Proof.KI.R0.lean ====
/- The first call (projections and rotations): what one grid point leaves in each output block, and that the body runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1024x1024 := Rect.unit (s := S1024x1024) ![0, 0] S1024x1024.size inb_S1024x1024_S1024x1024_0_0
abbrev r0_2 : Rect S1024x256 := Rect.unit (s := S1024x256) ![0, 0] S1024x256.size inb_S1024x256_S1024x256_0_0
abbrev r0_3 : Rect S256x128 := Rect.unit (s := S256x128) ![0, 0] S256x128.size inb_S256x128_S256x128_0_0
abbrev r0_4 : Rect S4x1024x64 := Rect.unit (s := S4x1024x64) ![0, 0, 0] S1x256x64.size inb_S4x1024x64_S1x256x64_0_0_0
abbrev r0_5 : Rect S4x1024x64 := Rect.unit (s := S4x1024x64) ![0, 256, 0] S1x256x64.size inb_S4x1024x64_S1x256x64_0_256_0
abbrev r0_6 : Rect S4x1024x64 := Rect.unit (s := S4x1024x64) ![0, 512, 0] S1x256x64.size inb_S4x1024x64_S1x256x64_0_512_0
abbrev r0_7 : Rect S4x1024x64 := Rect.unit (s := S4x1024x64) ![0, 768, 0] S1x256x64.size inb_S4x1024x64_S1x256x64_0_768_0
abbrev r0_8 : Rect S4x256x64 := Rect.unit (s := S4x256x64) ![0, 0, 0] S1x256x64.size inb_S4x256x64_S1x256x64_0_0_0
abbrev r0_9 : Rect S4x256x128 := Rect.unit (s := S4x256x128) ![0, 0, 0] S1x256x128.size inb_S4x256x128_S1x256x128_0_0_0
abbrev r0_10 : Rect S4x1024x64 := Rect.unit (s := S4x1024x64) ![1, 0, 0] S1x256x64.size inb_S4x1024x64_S1x256x64_1_0_0
abbrev r0_11 : Rect S4x1024x64 := Rect.unit (s := S4x1024x64) ![1, 256, 0] S1x256x64.size inb_S4x1024x64_S1x256x64_1_256_0
abbrev r0_12 : Rect S4x1024x64 := Rect.unit (s := S4x1024x64) ![1, 512, 0] S1x256x64.size inb_S4x1024x64_S1x256x64_1_512_0
abbrev r0_13 : Rect S4x1024x64 := Rect.unit (s := S4x1024x64) ![1, 768, 0] S1x256x64.size inb_S4x1024x64_S1x256x64_1_768_0
abbrev r0_14 : Rect S4x256x64 := Rect.unit (s := S4x256x64) ![1, 0, 0] S1x256x64.size inb_S4x256x64_S1x256x64_1_0_0
abbrev r0_15 : Rect S4x256x128 := Rect.unit (s := S4x256x128) ![1, 0, 0] S1x256x128.size inb_S4x256x128_S1x256x128_1_0_0
abbrev r0_16 : Rect S4x1024x64 := Rect.unit (s := S4x1024x64) ![2, 0, 0] S1x256x64.size inb_S4x1024x64_S1x256x64_2_0_0
abbrev r0_17 : Rect S4x1024x64 := Rect.unit (s := S4x1024x64) ![2, 256, 0] S1x256x64.size inb_S4x1024x64_S1x256x64_2_256_0
abbrev r0_18 : Rect S4x1024x64 := Rect.unit (s := S4x1024x64) ![2, 512, 0] S1x256x64.size inb_S4x1024x64_S1x256x64_2_512_0
abbrev r0_19 : Rect S4x1024x64 := Rect.unit (s := S4x1024x64) ![2, 768, 0] S1x256x64.size inb_S4x1024x64_S1x256x64_2_768_0
abbrev r0_20 : Rect S4x256x64 := Rect.unit (s := S4x256x64) ![2, 0, 0] S1x256x64.size inb_S4x256x64_S1x256x64_2_0_0
abbrev r0_21 : Rect S4x256x128 := Rect.unit (s := S4x256x128) ![2, 0, 0] S1x256x128.size inb_S4x256x128_S1x256x128_2_0_0
abbrev r0_22 : Rect S4x1024x64 := Rect.unit (s := S4x1024x64) ![3, 0, 0] S1x256x64.size inb_S4x1024x64_S1x256x64_3_0_0
abbrev r0_23 : Rect S4x1024x64 := Rect.unit (s := S4x1024x64) ![3, 256, 0] S1x256x64.size inb_S4x1024x64_S1x256x64_3_256_0
abbrev r0_24 : Rect S4x1024x64 := Rect.unit (s := S4x1024x64) ![3, 512, 0] S1x256x64.size inb_S4x1024x64_S1x256x64_3_512_0
abbrev r0_25 : Rect S4x1024x64 := Rect.unit (s := S4x1024x64) ![3, 768, 0] S1x256x64.size inb_S4x1024x64_S1x256x64_3_768_0
abbrev r0_26 : Rect S4x256x64 := Rect.unit (s := S4x256x64) ![3, 0, 0] S1x256x64.size inb_S4x256x64_S1x256x64_3_0_0
abbrev r0_27 : Rect S4x256x128 := Rect.unit (s := S4x256x128) ![3, 0, 0] S1x256x128.size inb_S4x256x128_S1x256x128_3_0_0
abbrev r0_28 : Rect S256x512 := Rect.unit (s := S256x512) ![0, 0] S256x512.size inb_S256x512_S256x512_0_0

/-! ## What the body leaves in each output window's buffer -/

/-! ### Values of the body that the stores' payloads, spelt out, would write more than once

    Each is a vector the body binds (often a part call's result), stated over the input windows' blocks and
    numbered on from the skeleton's payload functions (`k0_pay43` …, after `k0_pay42`), so that
    `out0_W` and the values after it name it instead of spelling it out (`unfold_out out0_W` opens a canon
    with them, `unfold_payloads` opens them with the payloads); the comment after each is the printed function's
    name for the value (a count appended where that name is bound again). -/

def k0_pay43 (x0 : Vec F S256x1024 .f32) (x1 : Vec F S1024x1024 .f32) (x2 : Vec F S1024x256 .f32) (x3 : Vec F S1024x256 .f32) (x4 : Vec F S256x128 .f32) (x5 : Vec F S256x128 .f32) : FVec F S256x256 .f32 :=
  k0_pay4 (View.ld x0 r0_0) (View.ld x3 r0_2) -- `v8`
def k0_pay44 (x0 : Vec F S256x1024 .f32) (x1 : Vec F S1024x1024 .f32) (x2 : Vec F S1024x256 .f32) (x3 : Vec F S1024x256 .f32) (x4 : Vec F S256x128 .f32) (x5 : Vec F S256x128 .f32) : FVec F S256x128 .f32 :=
  k0_pay6 (View.ld x5 r0_3) -- `v12`
def k0_pay45 (x0 : Vec F S256x1024 .f32) (x1 : Vec F S1024x1024 .f32) (x2 : Vec F S1024x256 .f32) (x3 : Vec F S1024x256 .f32) (x4 : Vec F S256x128 .f32) (x5 : Vec F S256x128 .f32) : FVec F S256x1024 .bf16 :=
  k0_pay7 (View.ld x0 r0_0) (View.ld x1 r0_1) (View.ld x4 r0_3) (View.ld x5 r0_3) -- `v32`
def k0_pay46 (x0 : Vec F S256x1024 .f32) (x1 : Vec F S1024x1024 .f32) (x2 : Vec F S1024x256 .f32) (x3 : Vec F S1024x256 .f32) (x4 : Vec F S256x128 .f32) (x5 : Vec F S256x128 .f32) : FVec F S256x256 .f32 :=
  k0_pay8 (View.ld x0 r0_0) (View.ld x2 r0_2) (View.ld x4 r0_3) -- `v34`
def k0_pay47 (x0 : Vec F S256x1024 .f32) (x1 : Vec F S1024x1024 .f32) (x2 : Vec F S1024x256 .f32) (x3 : Vec F S1024x256 .f32) (x4 : Vec F S256x128 .f32) (x5 : Vec F S256x128 .f32) : FVec F S256x256 .f32 :=
  k0_pay9 (View.ld x0 r0_0) (View.ld x2 r0_2) -- `v37`
def k0_pay48 (x0 : Vec F S256x1024 .f32) (x1 : Vec F S1024x1024 .f32) (x2 : Vec F S1024x256 .f32) (x3 : Vec F S1024x256 .f32) (x4 : Vec F S256x128 .f32) (x5 : Vec F S256x128 .f32) : FVec F S256x256 .f32 :=
  k0_pay10 (View.ld x0 r0_0) (View.ld x2 r0_2) -- `v40`
def k0_pay49 (x0 : Vec F S256x1024 .f32) (x1 : Vec F S1024x1024 .f32) (x2 : Vec F S1024x256 .f32) (x3 : Vec F S1024x256 .f32) (x4 : Vec F S256x128 .f32) (x5 : Vec F S256x128 .f32) : FVec F S256x256 .f32 :=
  k0_pay11 (k0_pay44 x0 x1 x2 x3 x4 x5) (k0_pay46 x0 x1 x2 x3 x4 x5) (k0_pay47 x0 x1 x2 x3 x4 x5) (k0_pay48 x0 x1 x2 x3 x4 x5) -- `v51`

/-- Window 6's staging buffer after the body, from the input windows' blocks: its 16 stores as pieces, LAST
    FIRST (Lib/Pipeline/FrameBody.lean `View.canon`; the payloads are the skeleton's and the values stated above). -/
def out0_6 (x0 : Vec F S256x1024 .f32) (x1 : Vec F S1024x1024 .f32) (x2 : Vec F S1024x256 .f32) (x3 : Vec F S1024x256 .f32) (x4 : Vec F S256x128 .f32) (x5 : Vec F S256x128 .f32) : Vec F S4x1024x64 .bf16 :=
  View.canon [⟨r0_25, k0_pay38 (k0_pay45 x0 x1 x2 x3 x4 x5)⟩,
    ⟨r0_24, k0_pay37 (k0_pay45 x0 x1 x2 x3 x4 x5)⟩,
    ⟨r0_23, k0_pay36 (k0_pay45 x0 x1 x2 x3 x4 x5)⟩,
    ⟨r0_22, k0_pay35 (k0_pay34 (k0_pay45 x0 x1 x2 x3 x4 x5))⟩,
    ⟨r0_19, k0_pay31 (k0_pay45 x0 x1 x2 x3 x4 x5)⟩,
    ⟨r0_18, k0_pay30 (k0_pay45 x0 x1 x2 x3 x4 x5)⟩,
    ⟨r0_17, k0_pay29 (k0_pay45 x0 x1 x2 x3 x4 x5)⟩,
    ⟨r0_16, k0_pay28 (k0_pay45 x0 x1 x2 x3 x4 x5)⟩,
    ⟨r0_13, k0_pay24 (k0_pay45 x0 x1 x2 x3 x4 x5)⟩,
    ⟨r0_12, k0_pay23 (k0_pay45 x0 x1 x2 x3 x4 x5)⟩,
    ⟨r0_11, k0_pay22 (k0_pay45 x0 x1 x2 x3 x4 x5)⟩,
    ⟨r0_10, k0_pay21 (k0_pay45 x0 x1 x2 x3 x4 x5)⟩,
    ⟨r0_7, k0_pay15 (k0_pay45 x0 x1 x2 x3 x4 x5)⟩,
    ⟨r0_6, k0_pay14 (k0_pay45 x0 x1 x2 x3 x4 x5)⟩,
    ⟨r0_5, k0_pay13 (k0_pay45 x0 x1 x2 x3 x4 x5)⟩,
    ⟨r0_4, k0_pay12 (k0_pay45 x0 x1 x2 x3 x4 x5)⟩]

/-- Its stores tile the buffer (checked by evaluation), so they cover it. -/
theorem cover0_6 (p0 : Vec F S1x256x64 .bf16) (p1 : Vec F S1x256x64 .bf16) (p2 : Vec F S1x256x64 .bf16) (p3 : Vec F S1x256x64 .bf16) (p4 : Vec F S1x256x64 .bf16) (p5 : Vec F S1x256x64 .bf16) (p6 : Vec F S1x256x64 .bf16) (p7 : Vec F S1x256x64 .bf16) (p8 : Vec F S1x256x64 .bf16) (p9 : Vec F S1x256x64 .bf16) (p10 : Vec F S1x256x64 .bf16) (p11 : Vec F S1x256x64 .bf16) (p12 : Vec F S1x256x64 .bf16) (p13 : Vec F S1x256x64 .bf16) (p14 : Vec F S1x256x64 .bf16) (p15 : Vec F S1x256x64 .bf16) (y : S4x1024x64.Idx) :
    ∃ pc ∈ ([⟨r0_25, p0⟩, ⟨r0_24, p1⟩, ⟨r0_23, p2⟩, ⟨r0_22, p3⟩, ⟨r0_19, p4⟩, ⟨r0_18, p5⟩, ⟨r0_17, p6⟩, ⟨r0_16, p7⟩, ⟨r0_13, p8⟩, ⟨r0_12, p9⟩, ⟨r0_11, p10⟩, ⟨r0_10, p11⟩, ⟨r0_7, p12⟩, ⟨r0_6, p13⟩, ⟨r0_5, p14⟩, ⟨r0_4, p15⟩] : List (View.Piece (Elt F) S4x1024x64 .bf16)), y ∈ pc.1.set :=
  View.cover_of_tiled [⟨r0_25, p0⟩, ⟨r0_24, p1⟩, ⟨r0_23, p2⟩, ⟨r0_22, p3⟩, ⟨r0_19, p4⟩, ⟨r0_18, p5⟩, ⟨r0_17, p6⟩, ⟨r0_16, p7⟩, ⟨r0_13, p8⟩, ⟨r0_12, p9⟩, ⟨r0_11, p10⟩, ⟨r0_10, p11⟩, ⟨r0_7, p12⟩, ⟨r0_6, p13⟩, ⟨r0_5, p14⟩, ⟨r0_4, p15⟩] S1x256x64.size (by rfl) y

/-- Window 7's staging buffer after the body, from the input windows' blocks: its 4 stores as pieces, LAST
    FIRST (Lib/Pipeline/FrameBody.lean `View.canon`; the payloads are the skeleton's and the values stated above). -/
def out0_7 (x0 : Vec F S256x1024 .f32) (x1 : Vec F S1024x1024 .f32) (x2 : Vec F S1024x256 .f32) (x3 : Vec F S1024x256 .f32) (x4 : Vec F S256x128 .f32) (x5 : Vec F S256x128 .f32) : Vec F S4x256x64 .bf16 :=
  View.canon [⟨r0_26, k0_pay39 (k0_pay49 x0 x1 x2 x3 x4 x5)⟩,
    ⟨r0_20, k0_pay32 (k0_pay49 x0 x1 x2 x3 x4 x5)⟩,
    ⟨r0_14, k0_pay25 (k0_pay49 x0 x1 x2 x3 x4 x5)⟩,
    ⟨r0_8, k0_pay16 (k0_pay44 x0 x1 x2 x3 x4 x5) (k0_pay46 x0 x1 x2 x3 x4 x5) (k0_pay47 x0 x1 x2 x3 x4 x5) (k0_pay48 x0 x1 x2 x3 x4 x5)⟩]

/-- Its stores tile the buffer (checked by evaluation), so they cover it. -/
theorem cover0_7 (p0 : Vec F S1x256x64 .bf16) (p1 : Vec F S1x256x64 .bf16) (p2 : Vec F S1x256x64 .bf16) (p3 : Vec F S1x256x64 .bf16) (y : S4x256x64.Idx) :
    ∃ pc ∈ ([⟨r0_26, p0⟩, ⟨r0_20, p1⟩, ⟨r0_14, p2⟩, ⟨r0_8, p3⟩] : List (View.Piece (Elt F) S4x256x64 .bf16)), y ∈ pc.1.set :=
  View.cover_of_tiled [⟨r0_26, p0⟩, ⟨r0_20, p1⟩, ⟨r0_14, p2⟩, ⟨r0_8, p3⟩] S1x256x64.size (by rfl) y

/-- Window 8's staging buffer after the body, from the input windows' blocks: its 4 stores as pieces, LAST
    FIRST (Lib/Pipeline/FrameBody.lean `View.canon`; the payloads are the skeleton's and the values stated above). -/
def out0_8 (x0 : Vec F S256x1024 .f32) (x1 : Vec F S1024x1024 .f32) (x2 : Vec F S1024x256 .f32) (x3 : Vec F S1024x256 .f32) (x4 : Vec F S256x128 .f32) (x5 : Vec F S256x128 .f32) : Vec F S4x256x128 .bf16 :=
  View.canon [⟨r0_27, k0_pay40 (k0_pay43 x0 x1 x2 x3 x4 x5)⟩,
    ⟨r0_21, k0_pay33 (k0_pay43 x0 x1 x2 x3 x4 x5)⟩,
    ⟨r0_15, k0_pay27 (k0_pay26 (k0_pay43 x0 x1 x2 x3 x4 x5))⟩,
    ⟨r0_9, k0_pay20 (k0_pay17 (k0_pay43 x0 x1 x2 x3 x4 x5)) (k0_pay18 (F := F)) (k0_pay19 (F := F))⟩]

/-- Its stores tile the buffer (checked by evaluation), so they cover it. -/
theorem cover0_8 (p0 : Vec F S1x256x128 .bf16) (p1 : Vec F S1x256x128 .bf16) (p2 : Vec F S1x256x128 .bf16) (p3 : Vec F S1x256x128 .bf16) (y : S4x256x128.Idx) :
    ∃ pc ∈ ([⟨r0_27, p0⟩, ⟨r0_21, p1⟩, ⟨r0_15, p2⟩, ⟨r0_9, p3⟩] : List (View.Piece (Elt F) S4x256x128 .bf16)), y ∈ pc.1.set :=
  View.cover_of_tiled [⟨r0_27, p0⟩, ⟨r0_21, p1⟩, ⟨r0_15, p2⟩, ⟨r0_9, p3⟩] S1x256x128.size (by rfl) y

/-- Window 9's staging buffer after the body, from the input windows' blocks: its 1 store as pieces, LAST
    FIRST (Lib/Pipeline/FrameBody.lean `View.canon`; the payloads are the skeleton's and the values stated above). -/
def out0_9 (x0 : Vec F S256x1024 .f32) (x1 : Vec F S1024x1024 .f32) (x2 : Vec F S1024x256 .f32) (x3 : Vec F S1024x256 .f32) (x4 : Vec F S256x128 .f32) (x5 : Vec F S256x128 .f32) : Vec F S256x512 .f32 :=
  View.canon [⟨r0_28, k0_pay1 (k0_pay43 x0 x1 x2 x3 x4 x5) (k0_pay49 x0 x1 x2 x3 x4 x5) (k0_pay41 (k0_pay43 x0 x1 x2 x3 x4 x5) (k0_pay49 x0 x1 x2 x3 x4 x5)) (k0_pay42 (k0_pay43 x0 x1 x2 x3 x4 x5) (k0_pay49 x0 x1 x2 x3 x4 x5))⟩]

/-- Its stores tile the buffer (checked by evaluation), so they cover it. -/
theorem cover0_9 (p0 : Vec F S256x512 .f32) (y : S256x512.Idx) :
    ∃ pc ∈ ([⟨r0_28, p0⟩] : List (View.Piece (Elt F) S256x512 .f32)), y ∈ pc.1.set :=
  View.cover_of_tiled [⟨r0_28, p0⟩] S256x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x1024 .f32) (harg1 : arg1.IsWhole) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x1024x64 .bf16) (harg7 : arg7.IsWhole) (arg8 : Memref sig .tc .vmem S4x256x64 .bf16) (harg8 : arg8.IsWhole) (arg9 : Memref sig .tc .vmem S4x256x128 .bf16) (harg9 : arg9.IsWhole) (arg10 : Memref sig .tc .vmem S256x512 .f32) (harg10 : arg10.IsWhole)
    (x0 : Vec F S256x1024 .f32) (x1 : Vec F S1024x1024 .f32) (x2 : Vec F S1024x256 .f32) (x3 : Vec F S1024x256 .f32) (x4 : Vec F S256x128 .f32) (x5 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover0_6 _ _ _ _ _ _ _ _ _ _ _ _ _ _ _ _)).trans ?_
    rfl
  isplitl [H7]
  · iexists _; isplitr
    swap; · iexact H7
    ipureintro
    refine (View.read_writes_eq_canon _ _ _ (cover0_7 _ _ _ _)).trans ?_
    rfl
  isplitl [H8]
  · iexists _; isplitr
    swap; · iexact H8
    ipureintro
    refine (View.read_writes_eq_canon _ _ _ (cover0_8 _ _ _ _)).trans ?_
    rfl
  iexists _; isplitr
  swap; · iexact H9
  ipureintro
  refine (View.read_writes_eq_canon _ _ _ (cover0_9 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KI.R1.lean ====
/- The second call (the router): what it leaves in each output, and that the body runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__router_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2048x512 := Rect.unit (s := S2048x512) ![0, 0] S2048x128.size inb_S2048x512_S2048x128_0_0
abbrev r1_1 : Rect S3x128x256 := Rect.unit (s := S3x128x256) ![0, 0, 0] S1x128x64.size inb_S3x128x256_S1x128x64_0_0_0
abbrev r1_2 : Rect S3x128x256 := Rect.unit (s := S3x128x256) ![1, 0, 0] S1x128x64.size inb_S3x128x256_S1x128x64_1_0_0
abbrev r1_3 : Rect S3x128x256 := Rect.unit (s := S3x128x256) ![2, 0, 0] S1x128x64.size inb_S3x128x256_S1x128x64_2_0_0
abbrev r1_4 : Rect S1x256 := Rect.unit (s := S1x256) ![0, 0] S1x64.size inb_S1x256_S1x64_0_0
abbrev r1_5 : Rect S3x64x128 := Rect.unit (s := S3x64x128) ![0, 0, 0] S1x64x32.size inb_S3x64x128_S1x64x32_0_0_0
abbrev r1_6 : Rect S3x64x128 := Rect.unit (s := S3x64x128) ![1, 0, 0] S1x64x32.size inb_S3x64x128_S1x64x32_1_0_0
abbrev r1_7 : Rect S3x64x128 := Rect.unit (s := S3x64x128) ![2, 0, 0] S1x64x32.size inb_S3x64x128_S1x64x32_2_0_0
abbrev r1_8 : Rect S1x128 := Rect.unit (s := S1x128) ![0, 0] S1x32.size inb_S1x128_S1x32_0_0
abbrev r1_9 : Rect S3x32x64 := Rect.unit (s := S3x32x64) ![0, 0, 0] S1x32x16.size inb_S3x32x64_S1x32x16_0_0_0
abbrev r1_10 : Rect S3x32x64 := Rect.unit (s := S3x32x64) ![1, 0, 0] S1x32x16.size inb_S3x32x64_S1x32x16_1_0_0
abbrev r1_11 : Rect S3x32x64 := Rect.unit (s := S3x32x64) ![2, 0, 0] S1x32x16.size inb_S3x32x64_S1x32x16_2_0_0
abbrev r1_12 : Rect S1x64 := Rect.unit (s := S1x64) ![0, 0] S1x16.size inb_S1x64_S1x16_0_0
abbrev r1_13 : Rect S4x16 := Rect.unit (s := S4x16) ![0, 0] S1x16.size inb_S4x16_S1x16_0_0
abbrev r1_14 : Rect S1x4 := Rect.unit (s := S1x4) ![0, 0] S1x1.size inb_S1x4_S1x1_0_0
abbrev r1_15 : Rect S4x2048x128 := Rect.unit (s := S4x2048x128) ![0, 0, 0] S1x2048x128.size inb_S4x2048x128_S1x2048x128_0_0_0
abbrev r1_16 : Rect S2048x512 := Rect.unit (s := S2048x512) ![0, 128] S2048x128.size inb_S2048x512_S2048x128_0_128
abbrev r1_17 : Rect S3x128x256 := Rect.unit (s := S3x128x256) ![0, 0, 64] S1x128x64.size inb_S3x128x256_S1x128x64_0_0_64
abbrev r1_18 : Rect S3x128x256 := Rect.unit (s := S3x128x256) ![1, 0, 64] S1x128x64.size inb_S3x128x256_S1x128x64_1_0_64
abbrev r1_19 : Rect S3x128x256 := Rect.unit (s := S3x128x256) ![2, 0, 64] S1x128x64.size inb_S3x128x256_S1x128x64_2_0_64
abbrev r1_20 : Rect S1x256 := Rect.unit (s := S1x256) ![0, 64] S1x64.size inb_S1x256_S1x64_0_64
abbrev r1_21 : Rect S3x64x128 := Rect.unit (s := S3x64x128) ![0, 0, 32] S1x64x32.size inb_S3x64x128_S1x64x32_0_0_32
abbrev r1_22 : Rect S3x64x128 := Rect.unit (s := S3x64x128) ![1, 0, 32] S1x64x32.size inb_S3x64x128_S1x64x32_1_0_32
abbrev r1_23 : Rect S3x64x128 := Rect.unit (s := S3x64x128) ![2, 0, 32] S1x64x32.size inb_S3x64x128_S1x64x32_2_0_32
abbrev r1_24 : Rect S1x128 := Rect.unit (s := S1x128) ![0, 32] S1x32.size inb_S1x128_S1x32_0_32
abbrev r1_25 : Rect S3x32x64 := Rect.unit (s := S3x32x64) ![0, 0, 16] S1x32x16.size inb_S3x32x64_S1x32x16_0_0_16
abbrev r1_26 : Rect S3x32x64 := Rect.unit (s := S3x32x64) ![1, 0, 16] S1x32x16.size inb_S3x32x64_S1x32x16_1_0_16
abbrev r1_27 : Rect S3x32x64 := Rect.unit (s := S3x32x64) ![2, 0, 16] S1x32x16.size inb_S3x32x64_S1x32x16_2_0_16
abbrev r1_28 : Rect S1x64 := Rect.unit (s := S1x64) ![0, 16] S1x16.size inb_S1x64_S1x16_0_16
abbrev r1_29 : Rect S4x16 := Rect.unit (s := S4x16) ![1, 0] S1x16.size inb_S4x16_S1x16_1_0
abbrev r1_30 : Rect S1x4 := Rect.unit (s := S1x4) ![0, 1] S1x1.size inb_S1x4_S1x1_0_1
abbrev r1_31 : Rect S4x2048x128 := Rect.unit (s := S4x2048x128) ![1, 0, 0] S1x2048x128.size inb_S4x2048x128_S1x2048x128_1_0_0
abbrev r1_32 : Rect S2048x512 := Rect.unit (s := S2048x512) ![0, 256] S2048x128.size inb_S2048x512_S2048x128_0_256
abbrev r1_33 : Rect S3x128x256 := Rect.unit (s := S3x128x256) ![0, 0, 128] S1x128x64.size inb_S3x128x256_S1x128x64_0_0_128
abbrev r1_34 : Rect S3x128x256 := Rect.unit (s := S3x128x256) ![1, 0, 128] S1x128x64.size inb_S3x128x256_S1x128x64_1_0_128
abbrev r1_35 : Rect S3x128x256 := Rect.unit (s := S3x128x256) ![2, 0, 128] S1x128x64.size inb_S3x128x256_S1x128x64_2_0_128
abbrev r1_36 : Rect S1x256 := Rect.unit (s := S1x256) ![0, 128] S1x64.size inb_S1x256_S1x64_0_128
abbrev r1_37 : Rect S3x64x128 := Rect.unit (s := S3x64x128) ![0, 0, 64] S1x64x32.size inb_S3x64x128_S1x64x32_0_0_64
abbrev r1_38 : Rect S3x64x128 := Rect.unit (s := S3x64x128) ![1, 0, 64] S1x64x32.size inb_S3x64x128_S1x64x32_1_0_64
abbrev r1_39 : Rect S3x64x128 := Rect.unit (s := S3x64x128) ![2, 0, 64] S1x64x32.size inb_S3x64x128_S1x64x32_2_0_64
abbrev r1_40 : Rect S1x128 := Rect.unit (s := S1x128) ![0, 64] S1x32.size inb_S1x128_S1x32_0_64
abbrev r1_41 : Rect S3x32x64 := Rect.unit (s := S3x32x64) ![0, 0, 32] S1x32x16.size inb_S3x32x64_S1x32x16_0_0_32
abbrev r1_42 : Rect S3x32x64 := Rect.unit (s := S3x32x64) ![1, 0, 32] S1x32x16.size inb_S3x32x64_S1x32x16_1_0_32
abbrev r1_43 : Rect S3x32x64 := Rect.unit (s := S3x32x64) ![2, 0, 32] S1x32x16.size inb_S3x32x64_S1x32x16_2_0_32
abbrev r1_44 : Rect S1x64 := Rect.unit (s := S1x64) ![0, 32] S1x16.size inb_S1x64_S1x16_0_32
abbrev r1_45 : Rect S4x16 := Rect.unit (s := S4x16) ![2, 0] S1x16.size inb_S4x16_S1x16_2_0
abbrev r1_46 : Rect S1x4 := Rect.unit (s := S1x4) ![0, 2] S1x1.size inb_S1x4_S1x1_0_2
abbrev r1_47 : Rect S4x2048x128 := Rect.unit (s := S4x2048x128) ![2, 0, 0] S1x2048x128.size inb_S4x2048x128_S1x2048x128_2_0_0
abbrev r1_48 : Rect S2048x512 := Rect.unit (s := S2048x512) ![0, 384] S2048x128.size inb_S2048x512_S2048x128_0_384
abbrev r1_49 : Rect S3x128x256 := Rect.unit (s := S3x128x256) ![0, 0, 192] S1x128x64.size inb_S3x128x256_S1x128x64_0_0_192
abbrev r1_50 : Rect S3x128x256 := Rect.unit (s := S3x128x256) ![1, 0, 192] S1x128x64.size inb_S3x128x256_S1x128x64_1_0_192
abbrev r1_51 : Rect S3x128x256 := Rect.unit (s := S3x128x256) ![2, 0, 192] S1x128x64.size inb_S3x128x256_S1x128x64_2_0_192
abbrev r1_52 : Rect S1x256 := Rect.unit (s := S1x256) ![0, 192] S1x64.size inb_S1x256_S1x64_0_192
abbrev r1_53 : Rect S3x64x128 := Rect.unit (s := S3x64x128) ![0, 0, 96] S1x64x32.size inb_S3x64x128_S1x64x32_0_0_96
abbrev r1_54 : Rect S3x64x128 := Rect.unit (s := S3x64x128) ![1, 0, 96] S1x64x32.size inb_S3x64x128_S1x64x32_1_0_96
abbrev r1_55 : Rect S3x64x128 := Rect.unit (s := S3x64x128) ![2, 0, 96] S1x64x32.size inb_S3x64x128_S1x64x32_2_0_96
abbrev r1_56 : Rect S1x128 := Rect.unit (s := S1x128) ![0, 96] S1x32.size inb_S1x128_S1x32_0_96
abbrev r1_57 : Rect S3x32x64 := Rect.unit (s := S3x32x64) ![0, 0, 48] S1x32x16.size inb_S3x32x64_S1x32x16_0_0_48
abbrev r1_58 : Rect S3x32x64 := Rect.unit (s := S3x32x64) ![1, 0, 48] S1x32x16.size inb_S3x32x64_S1x32x16_1_0_48
abbrev r1_59 : Rect S3x32x64 := Rect.unit (s := S3x32x64) ![2, 0, 48] S1x32x16.size inb_S3x32x64_S1x32x16_2_0_48
abbrev r1_60 : Rect S1x64 := Rect.unit (s := S1x64) ![0, 48] S1x16.size inb_S1x64_S1x16_0_48
abbrev r1_61 : Rect S4x16 := Rect.unit (s := S4x16) ![3, 0] S1x16.size inb_S4x16_S1x16_3_0
abbrev r1_62 : Rect S1x4 := Rect.unit (s := S1x4) ![0, 3] S1x1.size inb_S1x4_S1x1_0_3
abbrev r1_63 : Rect S4x2048x128 := Rect.unit (s := S4x2048x128) ![3, 0, 0] S1x2048x128.size inb_S4x2048x128_S1x2048x128_3_0_0
abbrev r1_64 : Rect S2048x4 := Rect.unit (s := S2048x4) ![0, 0] S2048x4.size inb_S2048x4_S2048x4_0_0

/-! ## What the body leaves in each output window's buffer -/

/-! ### Values of the body that the stores' payloads, spelt out, would write more than once

    Each is a vector the body binds (often a part call's result), stated over the input windows' blocks and
    numbered on from the skeleton's payload functions (`k1_pay43` …, after `k1_pay42`), so that
    `out1_W` and the values after it name it instead of spelling it out (`unfold_out out1_W` opens a canon
    with them, `unfold_payloads` opens them with the payloads); the comment after each is the printed function's
    name for the value (a count appended where that name is bound again). -/

def k1_pay43 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : IVec S2048x1 32 :=
  iota .tc S2048x1 32 [0] iota_S2048x1_d0_w32 -- `v0`
def k1_pay44 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x16 .f32 :=
  k1_pay9 (k1_pay4 (View.ld x0 r1_0) (View.ld x1 r1_1) (View.ld x1 r1_2) (View.ld x1 r1_3) (View.ld x5 r1_4)) (k1_pay6 (View.ld x0 r1_0) (View.ld x1 r1_1) (View.ld x1 r1_2) (View.ld x1 r1_3) (View.ld x5 r1_4)) (k1_pay7 (View.ld x0 r1_0) (View.ld x1 r1_1) (View.ld x1 r1_2) (View.ld x1 r1_3) (View.ld x5 r1_4) (View.ld x2 r1_5)) (k1_pay8 (View.ld x2 r1_6)) (View.ld x2 r1_7) (View.ld x6 r1_8) (View.ld x3 r1_9) (View.ld x3 r1_10) (View.ld x3 r1_11) (View.ld x7 r1_12) -- `v68`
def k1_pay45 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S1x16 .f32 :=
  k1_pay10 (View.ld x4 r1_13) -- `v70`
def k1_pay46 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x128 .f32 :=
  k1_pay13 (View.ld x0 r1_16) -- `v96`
def k1_pay47 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x128 .f32 :=
  k1_pay15 (View.ld x0 r1_16) -- `v101`
def k1_pay48 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x64 .f32 :=
  k1_pay16 (View.ld x0 r1_16) (View.ld x1 r1_17) -- `v104`
def k1_pay49 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S128x64 .f32 :=
  k1_pay17 (View.ld x1 r1_18) -- `v106`
def k1_pay50 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x1 .f32 :=
  k1_pay21 (k1_pay43 x0 x1 x2 x3 x4 x5 x6 x7 x8 x9) (k1_pay18 (k1_pay46 x0 x1 x2 x3 x4 x5 x6 x7 x8 x9) (k1_pay47 x0 x1 x2 x3 x4 x5 x6 x7 x8 x9) (k1_pay48 x0 x1 x2 x3 x4 x5 x6 x7 x8 x9) (k1_pay49 x0 x1 x2 x3 x4 x5 x6 x7 x8 x9) (View.ld x1 r1_19) (View.ld x5 r1_20) (View.ld x2 r1_21) (View.ld x2 r1_22) (View.ld x2 r1_23) (View.ld x6 r1_24)) (k1_pay19 (F := F)) (k1_pay20 (k1_pay46 x0 x1 x2 x3 x4 x5 x6 x7 x8 x9) (k1_pay47 x0 x1 x2 x3 x4 x5 x6 x7 x8 x9) (k1_pay48 x0 x1 x2 x3 x4 x5 x6 x7 x8 x9) (k1_pay49 x0 x1 x2 x3 x4 x5 x6 x7 x8 x9) (View.ld x1 r1_19) (View.ld x5 r1_20) (View.ld x2 r1_21) (View.ld x2 r1_22) (View.ld x2 r1_23) (View.ld x6 r1_24)) (View.ld x3 r1_25) (View.ld x3 r1_26) (View.ld x3 r1_27) (View.ld x7 r1_28) (View.ld x4 r1_29) (View.ld x8 r1_30) -- `v180`
def k1_pay51 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x64 .f32 :=
  k1_pay23 (View.ld x0 r1_32) (View.ld x1 r1_33) (View.ld x1 r1_34) (View.ld x1 r1_35) (View.ld x5 r1_36) -- `v212`
def k1_pay52 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S1x64 .f32 :=
  k1_pay24 (F := F) -- `v213`
def k1_pay53 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x64 .f32 :=
  k1_pay25 (View.ld x0 r1_32) (View.ld x1 r1_33) (View.ld x1 r1_34) (View.ld x1 r1_35) (View.ld x5 r1_36) -- `v215`
def k1_pay54 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x16 .f32 :=
  constant S2048x16 .f32 0x00000000#32 -- `cst_158`
def k1_pay55 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x32 .f32 :=
  k1_pay28 (k1_pay51 x0 x1 x2 x3 x4 x5 x6 x7 x8 x9) (k1_pay52 x0 x1 x2 x3 x4 x5 x6 x7 x8 x9) (k1_pay53 x0 x1 x2 x3 x4 x5 x6 x7 x8 x9) (View.ld x2 r1_37) (View.ld x2 r1_38) (View.ld x2 r1_39) (View.ld x6 r1_40) -- `v239`
def k1_pay56 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x16 .f32 :=
  k1_pay29 (k1_pay51 x0 x1 x2 x3 x4 x5 x6 x7 x8 x9) (k1_pay52 x0 x1 x2 x3 x4 x5 x6 x7 x8 x9) (k1_pay53 x0 x1 x2 x3 x4 x5 x6 x7 x8 x9) (View.ld x2 r1_37) (View.ld x2 r1_38) (View.ld x2 r1_39) (View.ld x6 r1_40) (View.ld x3 r1_41) (View.ld x3 r1_42) -- `v246`
def k1_pay57 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S32x16 .f32 :=
  k1_pay30 (View.ld x3 r1_43) -- `v248`
def k1_pay58 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x128 .f32 :=
  k1_pay33 (View.ld x0 r1_48) -- `v284`
def k1_pay59 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S1x128 .f32 :=
  k1_pay34 (F := F) -- `v285`
def k1_pay60 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x128 .f32 :=
  k1_pay35 (View.ld x0 r1_48) -- `v287`
def k1_pay61 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : FVec F S2048x1 .f32 :=
  k1_pay41 (k1_pay38 (k1_pay58 x0 x1 x2 x3 x4 x5 x6 x7 x8 x9) (k1_pay59 x0 x1 x2 x3 x4 x5 x6 x7 x8 x9) (k1_pay60 x0 x1 x2 x3 x4 x5 x6 x7 x8 x9) (View.ld x1 r1_49) (View.ld x1 r1_50) (View.ld x1 r1_51) (View.ld x5 r1_52)) (k1_pay39 (k1_pay58 x0 x1 x2 x3 x4 x5 x6 x7 x8 x9) (k1_pay59 x0 x1 x2 x3 x4 x5 x6 x7 x8 x9) (k1_pay60 x0 x1 x2 x3 x4 x5 x6 x7 x8 x9) (View.ld x1 r1_49) (View.ld x1 r1_50) (View.ld x1 r1_51) (View.ld x5 r1_52) (View.ld x2 r1_53) (View.ld x2 r1_54)) (k1_pay40 (View.ld x2 r1_55)) (constant S2048x32 .f32 0x00000000#32) (View.ld x6 r1_56) (View.ld x3 r1_57) (View.ld x3 r1_58) (View.ld x3 r1_59) (View.ld x7 r1_60) (View.ld x4 r1_61) -- `v356`

/-- Window 10's staging buffer after the body, from the input windows' blocks: its 1 store as pieces, LAST
    FIRST (Lib/Pipeline/FrameBody.lean `View.canon`; the payloads are the skeleton's and the values stated above). -/
def out1_10 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : Vec F S2048x4 .f32 :=
  View.canon [⟨r1_64, k1_pay3 (k1_pay43 x0 x1 x2 x3 x4 x5 x6 x7 x8 x9) (k1_pay11 (k1_pay43 x0 x1 x2 x3 x4 x5 x6 x7 x8 x9) (k1_pay44 x0 x1 x2 x3 x4 x5 x6 x7 x8 x9) (k1_pay45 x0 x1 x2 x3 x4 x5 x6 x7 x8 x9) (View.ld x8 r1_14)) (k1_pay50 x0 x1 x2 x3 x4 x5 x6 x7 x8 x9) (k1_pay31 (k1_pay43 x0 x1 x2 x3 x4 x5 x6 x7 x8 x9) (k1_pay55 x0 x1 x2 x3 x4 x5 x6 x7 x8 x9) (k1_pay56 x0 x1 x2 x3 x4 x5 x6 x7 x8 x9) (k1_pay57 x0 x1 x2 x3 x4 x5 x6 x7 x8 x9) (k1_pay54 x0 x1 x2 x3 x4 x5 x6 x7 x8 x9) (View.ld x7 r1_44) (View.ld x4 r1_45) (View.ld x8 r1_46)) (k1_pay61 x0 x1 x2 x3 x4 x5 x6 x7 x8 x9) (k1_pay42 (View.ld x8 r1_62))⟩]

/-- Its stores tile the buffer (checked by evaluation), so they cover it. -/
theorem cover1_10 (p0 : Vec F S2048x4 .f32) (y : S2048x4.Idx) :
    ∃ pc ∈ ([⟨r1_64, p0⟩] : List (View.Piece (Elt F) S2048x4 .f32)), y ∈ pc.1.set :=
  View.cover_of_tiled [⟨r1_64, p0⟩] S2048x4.size (by rfl) y

/-- Window 11's staging buffer after the body, from the input windows' blocks: its 4 stores as pieces, LAST
    FIRST (Lib/Pipeline/FrameBody.lean `View.canon`; the payloads are the skeleton's and the values stated above). -/
def out1_11 (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) : Vec F S4x2048x128 .bf16 :=
  View.canon [⟨r1_63, k1_pay2 (k1_pay43 x0 x1 x2 x3 x4 x5 x6 x7 x8 x9) (k1_pay61 x0 x1 x2 x3 x4 x5 x6 x7 x8 x9) (k1_pay42 (View.ld x8 r1_62)) (View.ld x9 r1_63)⟩,
    ⟨r1_47, k1_pay32 (k1_pay43 x0 x1 x2 x3 x4 x5 x6 x7 x8 x9) (k1_pay55 x0 x1 x2 x3 x4 x5 x6 x7 x8 x9) (k1_pay56 x0 x1 x2 x3 x4 x5 x6 x7 x8 x9) (k1_pay57 x0 x1 x2 x3 x4 x5 x6 x7 x8 x9) (k1_pay54 x0 x1 x2 x3 x4 x5 x6 x7 x8 x9) (View.ld x7 r1_44) (View.ld x4 r1_45) (View.ld x8 r1_46) (View.ld x9 r1_47)⟩,
    ⟨r1_31, k1_pay22 (k1_pay50 x0 x1 x2 x3 x4 x5 x6 x7 x8 x9) (View.ld x9 r1_31)⟩,
    ⟨r1_15, k1_pay12 (k1_pay43 x0 x1 x2 x3 x4 x5 x6 x7 x8 x9) (k1_pay44 x0 x1 x2 x3 x4 x5 x6 x7 x8 x9) (k1_pay45 x0 x1 x2 x3 x4 x5 x6 x7 x8 x9) (View.ld x8 r1_14) (View.ld x9 r1_15)⟩]

/-- Its stores tile the buffer (checked by evaluation), so they cover it. -/
theorem cover1_11 (p0 : Vec F S1x2048x128 .bf16) (p1 : Vec F S1x2048x128 .bf16) (p2 : Vec F S1x2048x128 .bf16) (p3 : Vec F S1x2048x128 .bf16) (y : S4x2048x128.Idx) :
    ∃ pc ∈ ([⟨r1_63, p0⟩, ⟨r1_47, p1⟩, ⟨r1_31, p2⟩, ⟨r1_15, p3⟩] : List (View.Piece (Elt F) S4x2048x128 .bf16)), y ∈ pc.1.set :=
  View.cover_of_tiled [⟨r1_63, p0⟩, ⟨r1_47, p1⟩, ⟨r1_31, p2⟩, ⟨r1_15, p3⟩] S1x2048x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S2048x512 .f32) (harg0 : arg0.IsWhole) (arg1 : Memref sig .tc .vmem S3x128x256 .f32) (harg1 : arg1.IsWhole) (arg2 : Memref sig .tc .vmem S3x64x128 .f32) (harg2 : arg2.IsWhole) (arg3 : Memref sig .tc .vmem S3x32x64 .f32) (harg3 : arg3.IsWhole) (arg4 : Memref sig .tc .vmem S4x16 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x4 .f32) (harg8 : arg8.IsWhole) (arg9 : Memref sig .tc .vmem S4x2048x128 .bf16) (harg9 : arg9.IsWhole) (arg10 : Memref sig .tc .vmem S2048x4 .f32) (harg10 : arg10.IsWhole) (arg11 : Memref sig .tc .vmem S4x2048x128 .bf16) (harg11 : arg11.IsWhole)
    (x0 : Vec F S2048x512 .f32) (x1 : Vec F S3x128x256 .f32) (x2 : Vec F S3x64x128 .f32) (x3 : Vec F S3x32x64 .f32) (x4 : Vec F S4x16 .f32) (x5 : Vec F S1x256 .f32) (x6 : Vec F S1x128 .f32) (x7 : Vec F S1x64 .f32) (x8 : Vec F S1x4 .f32) (x9 : Vec F S4x2048x128 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out1_10 x0 x1 x2 x3 x4 x5 x6 x7 x8 x9) ∗ owns (c : Thread nD τ) arg11 fullShare (out1_11 x0 x1 x2 x3 x4 x5 x6 x7 x8 x9)) -∗ K ⟨⟩))
      ⊢ wp frame (wpE (defs₀ (F := F)) Variants.none c none) E (cc1__router_kernel arg0 harg0 arg1 harg1 arg2 harg2 arg3 harg3 arg4 harg4 arg5 harg5 arg6 harg6 arg7 harg7 arg8 harg8 arg9 harg9 arg10 harg10 arg11 harg11) K := by
  simp only [cc1__router_kernel_eq_skeleton]; unfold cc1__router_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover1_10 _)).trans ?_
    rfl
  iexists _; isplitr
  swap; · iexact H11
  ipureintro
  refine (View.read_writes_eq_canon _ _ _ (cover1_11 _ _ _ _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KI.R2.lean ====
/- The third call (attention): what a grid point leaves in the output block, from what the block held before, and that the body runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2__attn_kernel` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the points ≡ 0 (mod 4) — by arithmetic of the point. -/
theorem hcond2_0 : ∀ t : Fin cfg2.N, cond2_0 (grid2.coords t) ↔ t.val % 4 = 0 :=
  (fun t => by
    have ht : t.val < 32 := Nat.lt_of_lt_of_eq t.isLt N_2
    have e0 : (grid2.coords t 0).val = t.val / 4 % 8 := Pipeline.Grid.coords_val t 0 (by decide) rfl
    have e1 : (grid2.coords t 1).val = t.val / 1 % 4 := Pipeline.Grid.coords_val t 1 (by decide) rfl
    simp only [cond2_0, k2_cond1, e0, e1]
    word_cmp
   : ∀ t : Fin grid2.N, cond2_0 (grid2.coords t) ↔ t.val % 4 = 0)

/-- The condition of the body's `scf.if` 1 (`k2_h2`), from the grid coordinates (the skeleton's scalar
    chain substituted). -/
abbrev cond2_1 (i : grid2.Coords) : Prop := k2_cond2 i = 1#1
/-- It holds at the points whose coordinates have 1 ≤ i1 — decided over the grid. -/
theorem hcond2_1 : ∀ t : Fin cfg2.N, cond2_1 (grid2.coords t) ↔ 1 ≤ t.val % 4 :=
  (by decide +kernel : ∀ t : Fin grid2.N, cond2_1 (grid2.coords t) ↔ 1 ≤ t.val % 4)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- Window 5 is never idle (an input). -/
theorem liveAt2_5 : ∀ t : Fin cfg2.N, cfg2.idle 5 (grid2.coords t) = false := fun _ => rfl
/-- Whether output 6's buffer is FRESH at each position `1 ‥ N` — holds nothing the body stored since the region's entry or the
    last write-back (written back at the point before, or idle there and fresh before it) —, as a bitmask the classifier
    computed, bit `n` for position `n + 1`; position 0 is fresh. `freshTab2_6_step` checks it against the configuration's own
    step point by point and Lib/Pipeline/TableIdle.lean `Cfg.fresh_tab` makes it `Cfg.fresh` (`fresh2_6_eq`). -/
def freshTab2_6 : ℕ → Bool
  | 0 => true
  | n + 1 => (0x88888888 : ℕ).testBit n
theorem freshTab2_6_step : ∀ t : Fin cfg2.N,
    freshTab2_6 (t.val + 1) = ((cfg2.win 6).flush t || (cfg2.idle 6 (cfg2.grid.coords t) && freshTab2_6 t.val)) := by decide +kernel
theorem fresh2_6_eq (t : Fin cfg2.N) : cfg2.fresh 6 t.val = freshTab2_6 t.val :=
  Pipeline.Cfg.fresh_tab cfg2 6 freshTab2_6 rfl freshTab2_6_step t.val (Nat.le_of_lt t.isLt)
/-- At the points of case A the printed configuration (`Cfg.idle`) calls output 6 live: the case stores into it. -/
theorem liveAt2_6_A : ∀ t : Fin cfg2.N, cond2_0 (grid2.coords t) → ¬cond2_1 (grid2.coords t) → cfg2.idle 6 (grid2.coords t) = false := by decide +kernel
/-- At the points of case B the printed configuration (`Cfg.idle`) calls output 6 live: the case stores into it. -/
theorem liveAt2_6_B : ∀ t : Fin cfg2.N, ¬cond2_0 (grid2.coords t) → cond2_1 (grid2.coords t) → cfg2.idle 6 (grid2.coords t) = false := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab2_6`). -/
theorem notFresh2_6_B : ∀ t : Fin cfg2.N, ¬cond2_0 (grid2.coords t) → cond2_1 (grid2.coords t) → cfg2.fresh 6 t.val = false := by
  intro t; rw [fresh2_6_eq t]; revert t; decide +kernel

/-! ## The kernel body on any staging memrefs: a subtype the run finds -/

/-- One staging buffer of output window 6, through which its contents are stated (`View.read_writes_of_cover`: the
    choice does not matter). -/
abbrev VO2_6 : View sig .tc .vmem S256x1024 .f32 := (Memref.whole cc2_stg6_0 : Memref sig .tc .vmem S256x1024 .f32).view
/-- Each window's current staging memref at point `t`, spelled as the pipeline passes it (`bodyAt2`), and its wholeness. -/
abbrev ms2_0 (t : Fin cfg2.N) : Memref sig .tc .vmem S1x1024x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4x2048x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x2048x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4x2048x128 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4x1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4x256x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x1024 .f32 := win2_6.stage (cfg2.slots t 6)
abbrev hs2_6 (t : Fin cfg2.N) : (ms2_6 t).IsWhole := hstage2_6 ((cfg2.slots t 6).cast nbuf2_6)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 4, … 28: 8 of 32), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .vmem S1x1024x64 .bf16) (harg2 : arg2.IsWhole) (arg3 : Memref sig .tc .vmem S4x2048x64 .bf16) (harg3 : arg3.IsWhole) (arg4 : Memref sig .tc .vmem S4x2048x128 .bf16) (harg4 : arg4.IsWhole) (arg5 : Memref sig .tc .vmem S4x2048x128 .bf16) (harg5 : arg5.IsWhole) (arg6 : Memref sig .tc .vmem S4x1x2048 .f32) (harg6 : arg6.IsWhole) (arg7 : Memref sig .tc .vmem S4x256x1024 .f32) (harg7 : arg7.IsWhole) (arg8 : Memref sig .tc .vmem S256x1024 .f32) (harg8 : arg8.IsWhole) (hc0 : cond2_0 i) (hc1 : ¬cond2_1 i)
    (x0 : Vec F S1x1024x64 .bf16) (x1 : Vec F S4x2048x64 .bf16) (x2 : Vec F S4x2048x128 .bf16) (x3 : Vec F S4x2048x128 .bf16) (x4 : Vec F S4x1x2048 .f32) (x5 : Vec F S4x256x1024 .f32) :
    { L6 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨?_, fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- Case A's pieces for output 6 tile its block (1 store of `S256x1024`, checked by the kernel's evaluation: Lib/Ring.lean `Piece.tiledL`, linear in the pieces, through a loop's `@[irreducible]` trip theorem too), so they cover it. -/
theorem cover2_A_6 (c : Dev nD) (i : grid2.Coords) (arg2 : Memref sig .tc .vmem S1x1024x64 .bf16) (harg2 : arg2.IsWhole) (arg3 : Memref sig .tc .vmem S4x2048x64 .bf16) (harg3 : arg3.IsWhole) (arg4 : Memref sig .tc .vmem S4x2048x128 .bf16) (harg4 : arg4.IsWhole) (arg5 : Memref sig .tc .vmem S4x2048x128 .bf16) (harg5 : arg5.IsWhole) (arg6 : Memref sig .tc .vmem S4x1x2048 .f32) (harg6 : arg6.IsWhole) (arg7 : Memref sig .tc .vmem S4x256x1024 .f32) (harg7 : arg7.IsWhole) (arg8 : Memref sig .tc .vmem S256x1024 .f32) (harg8 : arg8.IsWhole) (hc0 : cond2_0 i) (hc1 : ¬cond2_1 i)
    (x0 : Vec F S1x1024x64 .bf16) (x1 : Vec F S4x2048x64 .bf16) (x2 : Vec F S4x2048x128 .bf16) (x3 : Vec F S4x2048x128 .bf16) (x4 : Vec F S4x1x2048 .f32) (x5 : Vec F S4x256x1024 .f32) (y : S256x1024.Idx) :
    ∃ pc ∈ (kernelRun2_A c i arg2 harg2 arg3 harg3 arg4 harg4 arg5 harg5 arg6 harg6 arg7 harg7 arg8 harg8 hc0 hc1 x0 x1 x2 x3 x4 x5).1, y ∈ pc.1.set :=
  View.cover_of_tiledL (kernelRun2_A c i arg2 harg2 arg3 harg3 arg4 harg4 arg5 harg5 arg6 harg6 arg7 harg7 arg8 harg8 hc0 hc1 x0 x1 x2 x3 x4 x5).1 S256x1024.size (by sl_kernel_rfl) y

/-- What case A leaves in output 6's staging buffer: its pieces read back over junk. -/
def out2_A_6 (c : Dev nD) (i : grid2.Coords) (arg2 : Memref sig .tc .vmem S1x1024x64 .bf16) (harg2 : arg2.IsWhole) (arg3 : Memref sig .tc .vmem S4x2048x64 .bf16) (harg3 : arg3.IsWhole) (arg4 : Memref sig .tc .vmem S4x2048x128 .bf16) (harg4 : arg4.IsWhole) (arg5 : Memref sig .tc .vmem S4x2048x128 .bf16) (harg5 : arg5.IsWhole) (arg6 : Memref sig .tc .vmem S4x1x2048 .f32) (harg6 : arg6.IsWhole) (arg7 : Memref sig .tc .vmem S4x256x1024 .f32) (harg7 : arg7.IsWhole) (arg8 : Memref sig .tc .vmem S256x1024 .f32) (harg8 : arg8.IsWhole) (hc0 : cond2_0 i) (hc1 : ¬cond2_1 i)
    (x0 : Vec F S1x1024x64 .bf16) (x1 : Vec F S4x2048x64 .bf16) (x2 : Vec F S4x2048x128 .bf16) (x3 : Vec F S4x2048x128 .bf16) (x4 : Vec F S4x1x2048 .f32) (x5 : Vec F S4x256x1024 .f32) : Vec F S256x1024 .f32 :=
  VO2_6.read (Elt F) (VO2_6.writes (Elt F) VO2_6.junk (kernelRun2_A c i arg2 harg2 arg3 harg3 arg4 harg4 arg5 harg5 arg6 harg6 arg7 harg7 arg8 harg8 hc0 hc1 x0 x1 x2 x3 x4 x5).1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 31: 24 of 32), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .vmem S1x1024x64 .bf16) (harg2 : arg2.IsWhole) (arg3 : Memref sig .tc .vmem S4x2048x64 .bf16) (harg3 : arg3.IsWhole) (arg4 : Memref sig .tc .vmem S4x2048x128 .bf16) (harg4 : arg4.IsWhole) (arg5 : Memref sig .tc .vmem S4x2048x128 .bf16) (harg5 : arg5.IsWhole) (arg6 : Memref sig .tc .vmem S4x1x2048 .f32) (harg6 : arg6.IsWhole) (arg7 : Memref sig .tc .vmem S4x256x1024 .f32) (harg7 : arg7.IsWhole) (arg8 : Memref sig .tc .vmem S256x1024 .f32) (harg8 : arg8.IsWhole) (hc0 : ¬cond2_0 i) (hc1 : cond2_1 i)
    (x0 : Vec F S1x1024x64 .bf16) (x1 : Vec F S4x2048x64 .bf16) (x2 : Vec F S4x2048x128 .bf16) (x3 : Vec F S4x2048x128 .bf16) (x4 : Vec F S4x1x2048 .f32) (x5 : Vec F S4x256x1024 .f32) (xo6 : Vec F S256x1024 .f32) :
    { L6 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨?_, fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- Case B's pieces for output 6 tile its block (1 store of `S256x1024`, checked by the kernel's evaluation: Lib/Ring.lean `Piece.tiledL`, linear in the pieces, through a loop's `@[irreducible]` trip theorem too), so they cover it. -/
theorem cover2_B_6 (c : Dev nD) (i : grid2.Coords) (arg2 : Memref sig .tc .vmem S1x1024x64 .bf16) (harg2 : arg2.IsWhole) (arg3 : Memref sig .tc .vmem S4x2048x64 .bf16) (harg3 : arg3.IsWhole) (arg4 : Memref sig .tc .vmem S4x2048x128 .bf16) (harg4 : arg4.IsWhole) (arg5 : Memref sig .tc .vmem S4x2048x128 .bf16) (harg5 : arg5.IsWhole) (arg6 : Memref sig .tc .vmem S4x1x2048 .f32) (harg6 : arg6.IsWhole) (arg7 : Memref sig .tc .vmem S4x256x1024 .f32) (harg7 : arg7.IsWhole) (arg8 : Memref sig .tc .vmem S256x1024 .f32) (harg8 : arg8.IsWhole) (hc0 : ¬cond2_0 i) (hc1 : cond2_1 i)
    (x0 : Vec F S1x1024x64 .bf16) (x1 : Vec F S4x2048x64 .bf16) (x2 : Vec F S4x2048x128 .bf16) (x3 : Vec F S4x2048x128 .bf16) (x4 : Vec F S4x1x2048 .f32) (x5 : Vec F S4x256x1024 .f32) (xo6 : Vec F S256x1024 .f32) (y : S256x1024.Idx) :
    ∃ pc ∈ (kernelRun2_B c i arg2 harg2 arg3 harg3 arg4 harg4 arg5 harg5 arg6 harg6 arg7 harg7 arg8 harg8 hc0 hc1 x0 x1 x2 x3 x4 x5 xo6).1, y ∈ pc.1.set :=
  View.cover_of_tiledL (kernelRun2_B c i arg2 harg2 arg3 harg3 arg4 harg4 arg5 harg5 arg6 harg6 arg7 harg7 arg8 harg8 hc0 hc1 x0 x1 x2 x3 x4 x5 xo6).1 S256x1024.size (by sl_kernel_rfl) y

/-- What case B leaves in output 6's staging buffer: its pieces read back over junk. -/
def out2_B_6 (c : Dev nD) (i : grid2.Coords) (arg2 : Memref sig .tc .vmem S1x1024x64 .bf16) (harg2 : arg2.IsWhole) (arg3 : Memref sig .tc .vmem S4x2048x64 .bf16) (harg3 : arg3.IsWhole) (arg4 : Memref sig .tc .vmem S4x2048x128 .bf16) (harg4 : arg4.IsWhole) (arg5 : Memref sig .tc .vmem S4x2048x128 .bf16) (harg5 : arg5.IsWhole) (arg6 : Memref sig .tc .vmem S4x1x2048 .f32) (harg6 : arg6.IsWhole) (arg7 : Memref sig .tc .vmem S4x256x1024 .f32) (harg7 : arg7.IsWhole) (arg8 : Memref sig .tc .vmem S256x1024 .f32) (harg8 : arg8.IsWhole) (hc0 : ¬cond2_0 i) (hc1 : cond2_1 i)
    (x0 : Vec F S1x1024x64 .bf16) (x1 : Vec F S4x2048x64 .bf16) (x2 : Vec F S4x2048x128 .bf16) (x3 : Vec F S4x2048x128 .bf16) (x4 : Vec F S4x1x2048 .f32) (x5 : Vec F S4x256x1024 .f32) (xo6 : Vec F S256x1024 .f32) : Vec F S256x1024 .f32 :=
  VO2_6.read (Elt F) (VO2_6.writes (Elt F) VO2_6.junk (kernelRun2_B c i arg2 harg2 arg3 harg3 arg4 harg4 arg5 harg5 arg6 harg6 arg7 harg7 arg8 harg8 hc0 hc1 x0 x1 x2 x3 x4 x5 xo6).1)

/-! ## What the outputs hold after each point -/

/-- THE ACCUMULATION. What the outputs' staging buffers hold after the body at position `n`:
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S256x1024 .f32
  | 0, hn => out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn =>
    if h0 : (n + 1) % 4 = 0 then
      if h1 : 1 ≤ (n + 1) % 4 then
        False.elim (by have hN : n + 1 < 32 := lt_of_lt_of_eq hn (show cfg2.N = 32 from N_2); omega)
      else
        out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)
    else
      if h1 : 1 ≤ (n + 1) % 4 then
        out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn))
      else
        False.elim (by have hN : n + 1 < 32 := lt_of_lt_of_eq hn (show cfg2.N = 32 from N_2); omega)

/-- `outsAt2` at a point of case A: that case's contents. -/
theorem outsAt2_A (c : Dev nD) (t : Fin cfg2.N) (h0 : t.val % 4 = 0) (h1 : ¬1 ≤ t.val % 4) :
    outsAt2 V c t.val t.isLt = out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (iblk2 V c 0 t) (iblk2 V c 1 t) (iblk2 V c 2 t) (iblk2 V c 3 t) (iblk2 V c 4 t) (iblk2 V c 5 t) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : 1 ≤ t.val % 4) :
    outsAt2 V c t.val t.isLt = out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- Output 6's contents CARRY through the points that leave it idle: at such a point, its buffer not fresh, the proof data's
    `after` is the point before's (the case there stores nothing into the window and its term says so; a case that stores
    into it is not idle there by `liveAt2_6_κ`) — the hypothesis of Lib/Pipeline/TableIdle.lean `Dat.before_out_traj`. -/
theorem hcarry2_6 (c : Dev nD) : ∀ (t : Fin cfg2.N) (_ : t.val ≠ 0), cfg2.idle 6 (grid2.coords t) = true → cfg2.fresh 6 t.val = false →
    (dat2 V c).after 6 t = (dat2 V c).after 6 ⟨t.val - 1, by omega⟩ := by
  intro t _ hi _
  have hN : t.val < 32 := lt_of_lt_of_eq t.isLt (show cfg2.N = 32 from N_2)
  rw [after2_6, after2_6]
  by_cases h0 : t.val % 4 = 0
  · by_cases h1 : 1 ≤ t.val % 4
    · exfalso; omega
    · rw [liveAt2_6_A t ((hcond2_0 t).mpr h0) (fun h => h1 ((hcond2_1 t).mp h))] at hi
      exact absurd hi Bool.false_ne_true
  · by_cases h1 : 1 ≤ t.val % 4
    · rw [liveAt2_6_B t (fun h => h0 ((hcond2_0 t).mp h)) ((hcond2_1 t).mpr h1)] at hi
      exact absurd hi Bool.false_ne_true
    · exfalso; omega
/-- At a point of case B output 6's current staging buffer holds what the point before left: the buffer is not fresh
    there (`notFresh2_6_B`: stored into since the region's entry or the last write-back, carried through the points that
    leave it idle by `hcarry2_6`; Lib/Pipeline/TableIdle.lean `Dat.before_out_traj`). -/
theorem before2_6_B (c : Dev nD) (t : Fin cfg2.N) (h0 : ¬t.val % 4 = 0) (h1 : 1 ≤ t.val % 4) (d) :
    (dat2 V c).before 6 t d = (outsAt2 V c (t.val - 1) (Nat.lt_of_le_of_lt (Nat.sub_le _ _) t.isLt)) := by
  rw [Dat.before_out_traj _ 6 rfl (fun _ _ => rfl) (hcarry2_6 V c) t.val t rfl d,
    if_neg (by rw [notFresh2_6_B t (fun h => h0 ((hcond2_0 t).mp h)) ((hcond2_1 t).mpr h1)]; exact Bool.false_ne_true)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 800000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  have hN : t.val < 32 := lt_of_lt_of_eq t.isLt (show cfg2.N = 32 from N_2)
  by_cases h0 : t.val % 4 = 0
  · by_cases h1 : 1 ≤ t.val % 4
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6_A t ((hcond2_0 t).mpr h0) (fun h => h1 ((hcond2_1 t).mp h))], after2_6]
      rw [outsAt2_A V c t h0 h1]
      unfold out2_A_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_A_6 c _ _ _ _ _ _ _ _ _ _ _ _ _ _ _ _ _ _ _ _ _ _ _)
  · by_cases h1 : 1 ≤ t.val % 4
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6_B t (fun h => h0 ((hcond2_0 t).mp h)) ((hcond2_1 t).mpr h1)], after2_6]
      rw [outsAt2_B V c t h0 h1]
      simp only [before2_6_B V c t h0 h1]
      unfold out2_B_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_B_6 c _ _ _ _ _ _ _ _ _ _ _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.KI.Run.lean ====
/- The whole program run: the buffers at each boundary between the host stretches and the three calls, and the frame. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle
public import proofs.«01_k».proof.Proof.KI.R0
public import proofs.«01_k».proof.Proof.KI.R1
public import proofs.«01_k».proof.Proof.KI.R2

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_cst, main_v1, main_v2, main_v3, main_v4, main_cst_0, main_v5, main_v6, main_cst_1, main_v7, main_v8, main_cst_2, main_v9, main_v10, main_cst_3, main_v11, main_v12, main_cst_4, main_v13, main_v14, main_v15, main_v16, main_v17, main_v18, main_v19, main_v20, main_v21, main_v22, main_v23, main_v24, main_v25, main_v26, main_v27, main_v28, main_v29, main_v30, main_v31]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v33, main_v34, main_v35, main_v36, main_v37, main_v38, main_v39, main_v40, main_v41, main_v42, main_v43]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v45, main_v46, main_v47]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
theorem W6_main_arg11 (c : Dev nD) : W6 m ρ c (Proc.devRef .tc main_arg11) = m ((c : Thread nD τ).loc main_arg11) :=
  W6_args m ρ c main_arg11 (by decide)
theorem W6_main_arg12 (c : Dev nD) : W6 m ρ c (Proc.devRef .tc main_arg12) = m ((c : Thread nD τ).loc main_arg12) :=
  W6_args m ρ c main_arg12 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state has the result array at the last boundary's contents,
    the argument arrays as launched and every semaphore counter of the machine at zero. -/
theorem run : θ_run defs (onTc (τ := τ) (main (F := F))) ⟨m, fun _ => 0, ρ⟩ (fun r => (∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩), funext fun g => hz g (.inr (no_unscoped g.2))⟩)

/-- The frame: the same without the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => (h.1 c).2, h.2⟩) (run m ρ)

end Cert.KernelIdeal.Whole

end
-- ==== Proof.Val.Spec.lean ====
/-
The mathematics both programs compute, entry by entry over the extended reals:
the projections, the rotary embedding, the convolution layers of the router and
its logits.
-/
module
public import Idealize.ShloMosaic.Lib.Pointwise
public import Idealize.ShloMosaic.Lib.IdealHost
@[expose] public section
noncomputable section
namespace Cert.Spec
open Idealize.ShloMosaic

/-- The angle of position `i` at frequency `d`: the position times
`1 / 10000 ^ (2 d / 64)`. -/
def angle (i : Fin 2048) (d : Fin 32) : EReal :=
  FloatOps.sitofp (F := Ideal) FTy.f32 (BitVec.ofNat 32 ↑i) *
      Ideal.div 1
        (Ideal.pow (Ideal.ofBits FTy.f32 1176256512#32)
          (Ideal.div (Ideal.ofBits FTy.f32 1073741824#32 *
              FloatOps.sitofp (F := Ideal) FTy.f32 (BitVec.ofNat 32 ↑d))
            (Ideal.ofBits FTy.f32 1115684864#32)))

/-- The cosine table at position `i` and column `d` of a head. -/
def cosT (i : Fin 2048) (d : Fin 64) : EReal :=
  if h : d.val < 32 then Ideal.cos (angle i ⟨d.val, h⟩)
  else Ideal.cos (angle i ⟨d.val - 32, by omega⟩)

/-- The sine table at position `i` and column `d` of a head. -/
def sinT (i : Fin 2048) (d : Fin 64) : EReal :=
  if h : d.val < 32 then Ideal.sin (angle i ⟨d.val, h⟩)
  else Ideal.sin (angle i ⟨d.val - 32, by omega⟩)

/-- A head's row with its halves exchanged, the one moved to the front negated. -/
def rotHalf (y : Fin 64 → EReal) (d : Fin 64) : EReal :=
  if h : d.val < 32 then - y ⟨32 + d.val, by omega⟩ else y ⟨d.val - 32, by omega⟩

/-- The rotary embedding of a head's row `y` at position `i`. -/
def rope (y : Fin 64 → EReal) (i : Fin 2048) (d : Fin 64) : EReal :=
  y d * cosT i d + rotHalf y d * sinT i d

/-- A matrix product, one entry. -/
def dot {n : ℕ} (X : Fin 2048 → Fin 1024 → EReal) (W : Fin 1024 → Fin n → EReal)
    (i : Fin 2048) (j : Fin n) : EReal := ∑ x, X i x * W x j

/-- Column `d` of query head `h`. -/
def colQ (h : Fin 16) (d : Fin 64) : Fin 1024 := ⟨h.val * 64 + d.val, by omega⟩

/-- Column `d` of key head `h`. -/
def colK (h : Fin 4) (d : Fin 64) : Fin 256 := ⟨h.val * 64 + d.val, by omega⟩

/-- The router's input: per group of 128 channels the rotated key, then the value. -/
def feat (k v : Fin 2048 → Fin 64 → EReal) (i : Fin 2048) (c : Fin 128) : EReal :=
  if h : c.val < 64 then k i ⟨c.val, h⟩ else v i ⟨c.val - 64, by omega⟩

/-- The row before row `i`, zero before the first. -/
def before {C : ℕ} (x : Fin 2048 → Fin C → EReal) (i : Fin 2048) (c : Fin C) : EReal :=
  if h : 1 ≤ i.val then x ⟨i.val - 1, by omega⟩ c else 0

/-- The row after row `i`, zero after the last. -/
def after {C : ℕ} (x : Fin 2048 → Fin C → EReal) (i : Fin 2048) (c : Fin C) : EReal :=
  if h : i.val + 1 < 2048 then x ⟨i.val + 1, h⟩ c else 0

/-- `x` times its logistic. -/
def silu (x : EReal) : EReal := x * Ideal.logistic x

/-- One output channel of a convolution of width three along the rows, with its bias. -/
def lin {C : ℕ} (w : Fin 3 → Fin C → EReal) (b : EReal) (x : Fin 2048 → Fin C → EReal)
    (i : Fin 2048) : EReal :=
  ∑ c, before x i c * w 0 c + ∑ c, x i c * w 1 c + ∑ c, after x i c * w 2 c + b

/-- The layer: the convolution and its activation. -/
def layer {C : ℕ} (w : Fin 3 → Fin C → EReal) (b : EReal) (x : Fin 2048 → Fin C → EReal)
    (i : Fin 2048) : EReal := silu (lin w b x i)

/-- A layer's output rows, all channels. -/
def layers {C D : ℕ} (w : Fin D → Fin 3 → Fin C → EReal) (b : Fin D → EReal)
    (x : Fin 2048 → Fin C → EReal) (i : Fin 2048) (d : Fin D) : EReal := layer (w d) (b d) x i

/-- The router's logit of a group: three layers and a projection with its bias. -/
def logit (w1 : Fin 64 → Fin 3 → Fin 128 → EReal) (b1 : Fin 64 → EReal)
    (w2 : Fin 32 → Fin 3 → Fin 64 → EReal) (b2 : Fin 32 → EReal)
    (w3 : Fin 16 → Fin 3 → Fin 32 → EReal) (b3 : Fin 16 → EReal)
    (p : Fin 16 → EReal) (pb : EReal) (x : Fin 2048 → Fin 128 → EReal) (i : Fin 2048) : EReal :=
  ∑ c, layers w3 b3 (layers w2 b2 (layers w1 b1 x)) i c * p c + pb

/-- A layer from its three taps, the activation written with an exponential. -/
theorem layer_of {C : ℕ} (w : Fin 3 → Fin C → EReal) (b : EReal) (x : Fin 2048 → Fin C → EReal)
    (i : Fin 2048) {s0 s1 s2 : EReal} (h0 : s0 = ∑ c, before x i c * w 0 c)
    (h1 : s1 = ∑ c, x i c * w 1 c) (h2 : s2 = ∑ c, after x i c * w 2 c) :
    (s0 + s1 + s2 + b) * Ideal.div 1 (1 + Ideal.exp (-(s0 + s1 + s2 + b))) = layer w b x i := by
  subst h0 h1 h2; rfl

/-- The tap of the row before, read from a row-padded array of `M` channels at
channels `off` on. -/
theorem tap0 {C M : ℕ} (y : Fin 2048 → Fin M → EReal) (off : ℕ) (hM : off + C ≤ M)
    (w : Fin C → EReal) (i : Fin 2048) {z : EReal} (hz : z = 0) :
    (∑ x : Fin C, w x * if h : (1 ≤ i.val ∧ i.val - 1 < 2048) ∧ off + x.val < M then
        y ⟨i.val - 1, h.1.2⟩ ⟨off + x.val, h.2⟩ else z)
      = ∑ c : Fin C, before (fun i (c : Fin C) => y i ⟨off + c.val, by omega⟩) i c * w c := by
  refine Finset.sum_congr rfl fun x _ => ?_
  rw [mul_comm]
  unfold before
  by_cases h : 1 ≤ i.val
  · rw [dif_pos ⟨⟨h, by omega⟩, by omega⟩, dif_pos h]
  · rw [dif_neg (fun a => h a.1.1), dif_neg h, hz]

/-- The tap of the row itself. -/
theorem tap1 {C M : ℕ} (y : Fin 2048 → Fin M → EReal) (off : ℕ) (hM : off + C ≤ M)
    (w : Fin C → EReal) (i : Fin 2048) {z : EReal} :
    (∑ x : Fin C, w x * if h : off + x.val < M then y i ⟨off + x.val, h⟩ else z)
      = ∑ c : Fin C, y i ⟨off + c.val, by omega⟩ * w c := by
  refine Finset.sum_congr rfl fun x _ => ?_
  rw [mul_comm, dif_pos (by omega)]

/-- The tap of the row after. -/
theorem tap2 {C M : ℕ} (y : Fin 2048 → Fin M → EReal) (off : ℕ) (hM : off + C ≤ M)
    (w : Fin C → EReal) (i : Fin 2048) {z : EReal} (hz : z = 0) :
    (∑ x : Fin C, w x * if h : (1 ≤ 2 + i.val ∧ 2 + i.val - 1 < 2048) ∧ off + x.val < M then
        y ⟨2 + i.val - 1, h.1.2⟩ ⟨off + x.val, h.2⟩ else z)
      = ∑ c : Fin C, after (fun i (c : Fin C) => y i ⟨off + c.val, by omega⟩) i c * w c := by
  refine Finset.sum_congr rfl fun x _ => ?_
  rw [mul_comm]
  unfold after
  by_cases h : i.val + 1 < 2048
  · rw [dif_pos ⟨⟨by omega, by omega⟩, by omega⟩, dif_pos h]
    congr 2; exact Fin.ext (by show 2 + i.val - 1 = i.val + 1; omega)
  · rw [dif_neg (fun a => h (by omega)), dif_neg h, hz]

/-- Key `j` is kept by the router with logits `lg`: its logit is positive or it is
one of the first four. -/
def Sel (lg : Fin 2048 → EReal) (j : Fin 2048) : Prop := 0 < lg j ∨ j.val < 4

/-- Query `i` sees key `j`: not a later one, and within the window or kept. -/
def Allowed (lg : Fin 2048 → EReal) (i j : Fin 2048) : Prop :=
  j.val ≤ i.val ∧ (i.val < j.val + 512 ∨ Sel lg j)

open Classical in
/-- A masked score as the reference writes it. -/
def scoreR (q : Fin 64 → EReal) (k : Fin 2048 → Fin 64 → EReal) (lg : Fin 2048 → EReal)
    (i j : Fin 2048) : EReal :=
  if Allowed lg i j then Ideal.div (∑ x, q x * k j x) (8 : ℝ) else ⊥

/-- A softmax of a row of scores applied to a column of values, as the reference
writes it: the row's maximum subtracted, each weight divided by the sum. -/
def softR (s v : Fin 2048 → EReal) : EReal :=
  ∑ j, Ideal.div (Ideal.exp (s j - max ⊥ (Finset.univ.fold max ⊥ s)))
    (∑ j', Ideal.exp (s j' - max ⊥ (Finset.univ.fold max ⊥ s))) * v j

/-- The value of a key scaled by the router's factor, which is one. -/
def scaled (v lg : EReal) : EReal := v * (1 + max lg 0 - max lg 0)

theorem bits_8 : Ideal.ofBits FTy.f32 1090519040#32 = ((8 : ℝ) : EReal) := by
  simp [Ideal.ofBits, Ideal.ieee, -EReal.coe_mul]; norm_num
theorem bits_eighth : Ideal.ofBits FTy.f32 1040187392#32 = ((1 / 8 : ℝ) : EReal) := by
  simp [Ideal.ofBits, Ideal.ieee, -EReal.coe_mul]; norm_num
theorem bits_10000 : Ideal.ofBits FTy.f32 1176256512#32 = ((10000 : ℝ) : EReal) := by
  simp [Ideal.ofBits, Ideal.ieee, -EReal.coe_mul]; norm_num
theorem bits_2 : Ideal.ofBits FTy.f32 1073741824#32 = ((2 : ℝ) : EReal) := by
  simp [Ideal.ofBits, Ideal.ieee, -EReal.coe_mul]; norm_num
theorem bits_64 : Ideal.ofBits FTy.f32 1115684864#32 = ((64 : ℝ) : EReal) := by
  simp [Ideal.ofBits, Ideal.ieee, -EReal.coe_mul]; norm_num
theorem bits_bot : Ideal.ofBits FTy.f32 4286578688#32 = ⊥ := by
  simp [Ideal.ofBits, Ideal.ieee]
theorem bits_top : Ideal.ofBits FTy.f32 2139095040#32 = ⊤ := by
  simp [Ideal.ofBits, Ideal.ieee]

end Cert.Spec
end
-- ==== Proof.Val.KA.lean ====
/-
What one block of the first kernel call computes, entry by entry.
-/
module
public import proofs.«01_k».proof.Proof.KI.R0
public import proofs.«01_k».proof.Proof.Val.Spec
public import Idealize.ShloMosaic.Lib.Pipeline.ValueKit
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

/-- Bit five of a column number says in which half of its head the column lies. -/
theorem bit5 : ∀ n : Fin 1024, IntOp.cmpi CmpIPredicate.ne (IntOp.andi (BitVec.ofNat 32 n.val) 32#32) 0#32 = 1#1
    ↔ 32 ≤ n.val % 64 := by decide +kernel

/-- The queries of a block, rotated. -/
theorem qr_apply (x0 : FVec Ideal S256x1024 .f32) (x1 : FVec Ideal S1024x1024 .f32)
    (x2 x3 : FVec Ideal S1024x256 .f32) (x4 x5 : FVec Ideal S256x128 .f32) (r : Fin 256) (h : Fin 16) (d : Fin 64) (i : Fin 2048)
    (hc : ∀ c : Fin 128, x4 (ix2 r c) = cosT i ⟨c.val % 64, by omega⟩)
    (hs : ∀ c : Fin 128, x5 (ix2 r c) = sinT i ⟨c.val % 64, by omega⟩) :
    k0_pay45 (F := Ideal) x0 x1 x2 x3 x4 x5 (ix2 r (colQ h d))
      = rope (fun d => ∑ x, x0 (ix2 r x) * x1 (ix2 x (colQ h d))) i d := by
  pointwise [k0_pay45, k0_pay7, k0_pay2, k0_pay5, k0_pay6]
  have hn : (colQ h d).val = h.val * 64 + d.val := rfl
  have hcol : (colQ h d).val % 64 = d.val := by omega
  refine congrArg₂ (· + ·) (congrArg (_ * ·) ?_) (congrArg₂ (· * ·) ?_ ?_)
  · split_ifs <;> exact (hc _).trans (congrArg _ (Fin.ext (by show _ % 64 = d.val; first | omega | (dsimp only; omega))))
  · unfold Scalar.select rotHalf
    rw [zero_sub]
    refine (if_congr (bit5 (colQ h d)) rfl rfl).trans ?_
    by_cases hd : d.val < 32
    · rw [if_neg (by omega), dif_pos (by omega), dif_pos hd]
      refine congrArg _ (Finset.sum_congr rfl fun x _ => congrArg (_ * ·) (congrArg x1 ?_))
      exact congrArg (ix2 x) (Fin.ext (by show 32 + (colQ h d).val = h.val * 64 + (32 + d.val); omega))
    · rw [if_pos (by omega), dif_neg (by omega), dif_neg hd]
      refine Finset.sum_congr rfl fun x _ => congrArg (_ * ·) (congrArg x1 ?_)
      exact congrArg (ix2 x) (Fin.ext (by show (colQ h d).val - 32 = h.val * 64 + (d.val - 32); omega))
  · split_ifs <;> exact (hs _).trans (congrArg _ (Fin.ext (by show _ % 64 = d.val; first | omega | (dsimp only; omega))))

/-- The keys of a block, rotated. -/
theorem kr_apply (x0 : FVec Ideal S256x1024 .f32) (x1 : FVec Ideal S1024x1024 .f32)
    (x2 x3 : FVec Ideal S1024x256 .f32)
    (x4 x5 : FVec Ideal S256x128 .f32) (r : Fin 256) (h : Fin 4) (d : Fin 64) (i : Fin 2048)
    (hc : ∀ c : Fin 128, x4 (ix2 r c) = cosT i ⟨c.val % 64, by omega⟩)
    (hs : ∀ c : Fin 128, x5 (ix2 r c) = sinT i ⟨c.val % 64, by omega⟩) :
    k0_pay49 (F := Ideal) x0 x1 x2 x3 x4 x5 (ix2 r (colK h d))
      = rope (fun d => ∑ x, x0 (ix2 r x) * x2 (ix2 x (colK h d))) i d := by
  pointwise [k0_pay49, k0_pay11, k0_pay44, k0_pay46, k0_pay47, k0_pay48, k0_pay2, k0_pay3, k0_pay5, k0_pay6, k0_pay8,
    k0_pay9, k0_pay10]
  have hn : (colK h d).val = h.val * 64 + d.val := rfl
  have hcol : (colK h d).val % 64 = d.val := by omega
  refine congrArg₂ (· + ·) (congrArg (_ * ·) ?_) (congrArg₂ (· * ·) ?_ ?_)
  · split_ifs <;> exact (hc _).trans (congrArg _ (Fin.ext (by show _ % 64 = d.val; first | omega | (dsimp only; omega))))
  · unfold Scalar.select rotHalf
    rw [zero_sub]
    refine (if_congr (bit5 ⟨(colK h d).val, by omega⟩) rfl rfl).trans ?_
    by_cases hd : d.val < 32
    · rw [if_neg (show ¬ 32 ≤ (colK h d).val % 64 by omega), dif_pos (by omega), dif_pos hd]
      refine congrArg _ (Finset.sum_congr rfl fun x _ => congrArg (_ * ·) (congrArg x2 ?_))
      exact congrArg (ix2 x) (Fin.ext (by show 32 + (colK h d).val = h.val * 64 + (32 + d.val); omega))
    · rw [if_pos (show 32 ≤ (colK h d).val % 64 by omega), dif_neg (by omega), dif_neg hd]
      refine Finset.sum_congr rfl fun x _ => congrArg (_ * ·) (congrArg x2 ?_)
      exact congrArg (ix2 x) (Fin.ext (by show (colK h d).val - 32 = h.val * 64 + (d.val - 32); omega))
  · split_ifs <;> exact (hs _).trans (congrArg _ (Fin.ext (by show _ % 64 = d.val; first | omega | (dsimp only; omega))))

/-- The values of a block. -/
theorem vr_apply (x0 : FVec Ideal S256x1024 .f32) (x1 : FVec Ideal S1024x1024 .f32)
    (x2 x3 : FVec Ideal S1024x256 .f32)
    (x4 x5 : FVec Ideal S256x128 .f32) (r : Fin 256) (n : Fin 256) :
    k0_pay43 (F := Ideal) x0 x1 x2 x3 x4 x5 (ix2 r n)
      = ∑ x, x0 (ix2 r x) * x3 (ix2 x n) := by
  pointwise [k0_pay43, k0_pay4, k0_pay2]

/-- The first output block holds the rotated queries, one head's rows after another's. -/
theorem out6_apply (x0 : FVec Ideal S256x1024 .f32) (x1 : FVec Ideal S1024x1024 .f32)
    (x2 x3 : FVec Ideal S1024x256 .f32) (x4 x5 : FVec Ideal S256x128 .f32) (y : S4x1024x64.Idx) (i : S256x1024.Idx)
    (hi0 : (i 0 : ℕ) = y 1 % 256) (hi1 : (i 1 : ℕ) = (y 0 * 4 + y 1 / 256) * 64 + y 2) :
    out0_6 (F := Ideal) x0 x1 x2 x3 x4 x5 y = k0_pay45 (F := Ideal) x0 x1 x2 x3 x4 x5 i := by
  unfold out0_6
  generalize k0_pay45 (F := Ideal) x0 x1 x2 x3 x4 x5 = T
  canon_tiles x h
  all_goals (open_payloads; pointwise; blk_ext)

/-- The second output block holds the rotated keys by head. -/
theorem out7_apply (x0 : FVec Ideal S256x1024 .f32) (x1 : FVec Ideal S1024x1024 .f32)
    (x2 x3 : FVec Ideal S1024x256 .f32) (x4 x5 : FVec Ideal S256x128 .f32) (y : S4x256x64.Idx) (i : S256x256.Idx)
    (hi0 : (i 0 : ℕ) = y 1) (hi1 : (i 1 : ℕ) = y 0 * 64 + y 2) :
    out0_7 (F := Ideal) x0 x1 x2 x3 x4 x5 y = k0_pay49 (F := Ideal) x0 x1 x2 x3 x4 x5 i := by
  unfold out0_7
  canon_tiles x h
  case piece3 =>
    show k0_pay16 _ _ _ _ x = _
    unfold k0_pay16 k0_pay49
    generalize k0_pay11 (F := Ideal) _ _ _ _ = T
    pointwise; blk_ext
  all_goals (generalize k0_pay49 (F := Ideal) x0 x1 x2 x3 x4 x5 = T; open_payloads; pointwise; blk_ext)

/-- The third output block holds the values by head, followed by a one and zeros. -/
theorem out8_apply (x0 : FVec Ideal S256x1024 .f32) (x1 : FVec Ideal S1024x1024 .f32)
    (x2 x3 : FVec Ideal S1024x256 .f32) (x4 x5 : FVec Ideal S256x128 .f32) (y : S4x256x128.Idx) :
    out0_8 (F := Ideal) x0 x1 x2 x3 x4 x5 y = if h : (y 2).val < 64 then
        k0_pay43 (F := Ideal) x0 x1 x2 x3 x4 x5 (ix2 ⟨(y 1).val, (y 1).isLt⟩ (colK ⟨(y 0).val, (y 0).isLt⟩ ⟨(y 2).val, h⟩))
      else if (y 2).val = 64 then 1 else 0 := by
  unfold out0_8
  generalize k0_pay43 (F := Ideal) x0 x1 x2 x3 x4 x5 = T
  canon_tiles x h
  all_goals
    open_payloads
    pointwise
    unfold colK
    by_cases hd : (y 2).val < 64
    · rw [dif_pos (by omega), dif_pos hd]
      blk_ext
    · rw [dif_neg (by omega), dif_neg hd, dite_eq_ite]
      exact if_congr (by omega) rfl rfl

/-- The fourth output block holds, by head, the rotated keys and the values side by side. -/
theorem out9_apply (x0 : FVec Ideal S256x1024 .f32) (x1 : FVec Ideal S1024x1024 .f32)
    (x2 x3 : FVec Ideal S1024x256 .f32) (x4 x5 : FVec Ideal S256x128 .f32) (r : Fin 256) (g : Fin 4) (c : Fin 128) :
    out0_9 (F := Ideal) x0 x1 x2 x3 x4 x5 (ix2 r ⟨g.val * 128 + c.val, by omega⟩) = if hc : c.val < 64 then
        k0_pay49 (F := Ideal) x0 x1 x2 x3 x4 x5 (ix2 r (colK g ⟨c.val, hc⟩))
      else k0_pay43 (F := Ideal) x0 x1 x2 x3 x4 x5 (ix2 r (colK g ⟨c.val - 64, by omega⟩)) := by
  unfold out0_9
  generalize k0_pay43 (F := Ideal) x0 x1 x2 x3 x4 x5 = T
  generalize k0_pay49 (F := Ideal) x0 x1 x2 x3 x4 x5 = U
  canon_tiles x h
  open_payloads
  pointwise
  have h1' : g.val * 128 + c.val = (x 1).val := h1
  have h0' : r.val = (x 0).val := h0
  unfold colK
  by_cases hc : c.val < 64
  · rw [dif_pos hc]
    split_ifs <;> first | omega | blk_ext
  · rw [dif_neg hc]
    split_ifs <;> first | omega | blk_ext
end Cert.KernelIdeal.Val
end
-- ==== Proof.Val.KB.lean ====
/-
The arrays the first kernel call leaves, entry by entry.
-/
module
public import proofs.«01_k».proof.Proof.Val.KA
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![0, t.val, 0] ∧ win0_7.index t = ![0, t.val, 0] ∧ win0_8.index t = ![0, t.val, 0]
    ∧ win0_9.index t = ![t.val, 0] := (by decide +kernel : ∀ t : Fin grid0.N, _)

/-- The query of head `h` at position `i` as the first call computes it. -/
def qV (h : Fin 16) (i : Fin 2048) (d : Fin 64) : EReal :=
  rope (fun d => dot (fun i x => V c main_v0 (ix2 i x)) (fun x n => V c main_v2 (ix2 x n)) i (colQ h d)) i d
/-- The key of head `g` at position `i`. -/
def kV (g : Fin 4) (i : Fin 2048) (d : Fin 64) : EReal :=
  rope (fun d => dot (fun i x => V c main_v0 (ix2 i x)) (fun x n => V c main_arg2 (ix2 x n)) i (colK g d)) i d
/-- The value of head `g` at position `i`. -/
def vV (g : Fin 4) (i : Fin 2048) (d : Fin 64) : EReal :=
  dot (fun i x => V c main_v0 (ix2 i x)) (fun x n => V c main_arg3 (ix2 x n)) i (colK g d)

/-- The tables the first call is given hold the cosines and sines. -/
def Tables : Prop := ∀ (i : Fin 2048) (d : Fin 128), V c main_v28 (ix2 i d) = cosT i ⟨d.val % 64, by omega⟩
  ∧ V c main_v31 (ix2 i d) = sinT i ⟨d.val % 64, by omega⟩

theorem lt0 (t : Fin cfg0.N) : t.val < 8 := lt_of_lt_of_eq t.isLt (by decide +kernel)

/-- Row `r` of block `t`. -/
def row0 (t : Fin cfg0.N) (r : Fin 256) : Fin 2048 := ⟨t.val * 256 + r.val, by have := lt0 t; omega⟩

theorem blk_q (hT : Tables V c) (t : Fin cfg0.N) (r : Fin 256) (h : Fin 16) (d : Fin 64) :
    k0_pay45 (F := Ideal) (iblk0 V c 0 t) (iblk0 V c 1 t) (iblk0 V c 2 t) (iblk0 V c 3 t) (iblk0 V c 4 t) (iblk0 V c 5 t) (ix2 r (colQ h d))
      = qV V c h (row0 t r) d := by
  have ht := lt0 t
  rw [qr_apply _ _ _ _ _ _ r h d (row0 t r) (fun d => Eq.trans ?_ (hT _ d).1) (fun d => Eq.trans ?_ (hT _ d).2)]
  · unfold qV dot
    refine congrFun (congrArg₂ rope (funext fun d => Finset.sum_congr rfl fun x _ => ?_) rfl) d
    beta_reduce
    blk_point [iblk0, row0, idx0 t]
  all_goals (blk_point [iblk0, row0, idx0 t])

theorem blk_k (hT : Tables V c) (t : Fin cfg0.N) (r : Fin 256) (g : Fin 4) (d : Fin 64) :
    k0_pay49 (F := Ideal) (iblk0 V c 0 t) (iblk0 V c 1 t) (iblk0 V c 2 t) (iblk0 V c 3 t) (iblk0 V c 4 t) (iblk0 V c 5 t)
      (ix2 r (colK g d)) = kV V c g (row0 t r) d := by
  have ht := lt0 t
  rw [kr_apply _ _ _ _ _ _ r g d (row0 t r) (fun d => Eq.trans ?_ (hT _ d).1) (fun d => Eq.trans ?_ (hT _ d).2)]
  · unfold kV dot
    refine congrFun (congrArg₂ rope (funext fun d => Finset.sum_congr rfl fun x _ => ?_) rfl) d
    beta_reduce
    blk_point [iblk0, row0, idx0 t]
  all_goals (blk_point [iblk0, row0, idx0 t])

theorem blk_v (t : Fin cfg0.N) (r : Fin 256) (g : Fin 4) (d : Fin 64) :
    k0_pay43 (F := Ideal) (iblk0 V c 0 t) (iblk0 V c 1 t) (iblk0 V c 2 t) (iblk0 V c 3 t) (iblk0 V c 4 t) (iblk0 V c 5 t)
      (ix2 r (colK g d)) = vV V c g (row0 t r) d := by
  have ht := lt0 t
  rw [vr_apply]
  unfold vV dot
  refine Finset.sum_congr rfl fun x _ => ?_
  beta_reduce
  blk_point [iblk0, row0, idx0 t]

theorem qV_congr {h h' : Fin 16} {i i' : Fin 2048} {d d' : Fin 64} (e : h.val = h'.val) (ei : i.val = i'.val)
    (ed : d.val = d'.val) : qV V c h i d = qV V c h' i' d' := by
  rw [Fin.ext e, Fin.ext ei, Fin.ext ed]
theorem kV_congr {h h' : Fin 4} {i i' : Fin 2048} {d d' : Fin 64} (e : h.val = h'.val) (ei : i.val = i'.val)
    (ed : d.val = d'.val) : kV V c h i d = kV V c h' i' d' := by
  rw [Fin.ext e, Fin.ext ei, Fin.ext ed]
theorem vV_congr {h h' : Fin 4} {i i' : Fin 2048} {d d' : Fin 64} (e : h.val = h'.val) (ei : i.val = i'.val)
    (ed : d.val = d'.val) : vV V c h i d = vV V c h' i' d' := by
  rw [Fin.ext e, Fin.ext ei, Fin.ext ed]

/-- The query array: per key head the four query heads of a block of rows one after another. -/
theorem qs_arr (hT : Tables V c) : (dat0 V c).arrAt 6 cfg0.N = fun j : S4x8192x64.Idx =>
    qV V c ⟨(j 0).val * 4 + (j 1).val % 1024 / 256, by have : (j 0).val < 4 := (j 0).isLt; omega⟩
      ⟨(j 1).val / 1024 * 256 + (j 1).val % 256, by have : (j 1).val < 8192 := (j 1).isLt; omega⟩ ⟨(j 2).val, (j 2).isLt⟩ := by
  refine (dat0 V c).arrAt_eq_of_covers 6 _ (by decide +kernel) fun t _ y => ?_
  blk_simp [idx0 t]
  have ht := lt0 t
  have h0 : (y 0).val < 4 := (y 0).isLt
  have h1 : (y 1).val < 1024 := (y 1).isLt
  have h2 : (y 2).val < 64 := (y 2).isLt
  obtain ⟨r, hr⟩ : ∃ r : Fin 256, r.val = (y 1).val % 256 := ⟨⟨(y 1).val % 256, by omega⟩, rfl⟩
  obtain ⟨h, hh⟩ : ∃ h : Fin 16, h.val = (y 0).val * 4 + (y 1).val / 256 := ⟨⟨(y 0).val * 4 + (y 1).val / 256, by omega⟩, rfl⟩
  obtain ⟨d, hd⟩ : ∃ d : Fin 64, d.val = (y 2).val := ⟨⟨_, h2⟩, rfl⟩
  have e1 : ((ix2 r (colQ h d) : S256x1024.Idx) 1).val = ((y 0).val * 4 + (y 1).val / 256) * 64 + (y 2).val := by
    show h.val * 64 + d.val = _
    rw [hh, hd]
  rw [after0_6, out6_apply _ _ _ _ _ _ y (ix2 r (colQ h d)) hr e1]
  refine (blk_q V c hT t _ _ _).trans (qV_congr V c ?_ ?_ ?_)
  · show h.val = _; dsimp only; omega
  · show t.val * 256 + r.val = _; dsimp only; omega
  · show d.val = _; dsimp only; omega

/-- The key array by head. -/
theorem kh_arr (hT : Tables V c) : (dat0 V c).arrAt 7 cfg0.N = fun j : S4x2048x64.Idx =>
    kV V c ⟨(j 0).val, (j 0).isLt⟩ ⟨(j 1).val, (j 1).isLt⟩ ⟨(j 2).val, (j 2).isLt⟩ := by
  refine (dat0 V c).arrAt_eq_of_covers 7 _ (by decide +kernel) fun t _ y => ?_
  blk_simp [idx0 t]
  have ht := lt0 t
  rw [after0_7, out7_apply _ _ _ _ _ _ y (ix2 ⟨(y 1).val, (y 1).isLt⟩ (colK ⟨(y 0).val, (y 0).isLt⟩ ⟨(y 2).val, (y 2).isLt⟩)) rfl rfl]
  refine (blk_k V c hT t _ _ _).trans (kV_congr V c ?_ ?_ ?_)
  · first | rfl | omega | (dsimp only; omega)
  · rfl
  · first | rfl | omega | (dsimp only; omega)

/-- The value array by head, its column 64 one and the columns after it zero. -/
theorem vn_arr : (dat0 V c).arrAt 8 cfg0.N = fun j : S4x2048x128.Idx =>
    if h : (j 2).val < 64 then vV V c ⟨(j 0).val, (j 0).isLt⟩ ⟨(j 1).val, (j 1).isLt⟩ ⟨(j 2).val, h⟩
    else if (j 2).val = 64 then 1 else 0 := by
  refine (dat0 V c).arrAt_eq_of_covers 8 _ (by decide +kernel) fun t _ y => ?_
  blk_simp [idx0 t]
  have ht := lt0 t
  rw [after0_8, out8_apply]
  simp only [blk_v V c t]
  by_cases hd : (y 2).val < 64
  · rw [dif_pos hd, dif_pos (by omega)]
    refine vV_congr V c ?_ ?_ ?_
    · first | rfl | omega | (dsimp only; omega)
    · rfl
    · first | rfl | omega | (dsimp only; omega)
  · rw [dif_neg hd, dif_neg (by omega)]
    try exact if_congr (by omega) rfl rfl

/-- The router's input. -/
theorem xf_arr (hT : Tables V c) : (dat0 V c).arrAt 9 cfg0.N = fun j : S2048x512.Idx =>
    feat (kV V c ⟨(j 1).val / 128, by have : (j 1).val < 512 := (j 1).isLt; omega⟩)
      (vV V c ⟨(j 1).val / 128, by have : (j 1).val < 512 := (j 1).isLt; omega⟩) ⟨(j 0).val, (j 0).isLt⟩
      ⟨(j 1).val % 128, by omega⟩ := by
  refine (dat0 V c).arrAt_eq_of_covers 9 _ (by decide +kernel) fun t _ y => ?_
  blk_simp [idx0 t]
  have ht := lt0 t
  have h1 : (y 1).val < 512 := (y 1).isLt
  obtain ⟨r, hr⟩ : ∃ r : Fin 256, r.val = (y 0).val := ⟨⟨_, (y 0).isLt⟩, rfl⟩
  obtain ⟨g, hg⟩ : ∃ g : Fin 4, g.val = (y 1).val / 128 := ⟨⟨(y 1).val / 128, by omega⟩, rfl⟩
  obtain ⟨d, hd⟩ : ∃ d : Fin 128, d.val = (y 1).val % 128 := ⟨⟨(y 1).val % 128, by omega⟩, rfl⟩
  have hy : y = ix2 r ⟨g.val * 128 + d.val, by omega⟩ := by
    funext a
    fin_cases a
    · exact Fin.ext hr.symm
    · exact Fin.ext (by show (y 1).val = g.val * 128 + d.val; omega)
  rw [after0_9, hy, out9_apply]
  simp only [blk_v V c t, blk_k V c hT t]
  unfold feat
  have e1 : ((ix2 r ⟨g.val * 128 + d.val, by omega⟩ : S256x512.Idx) 1).val = g.val * 128 + d.val := rfl
  by_cases hd : d.val < 64
  · rw [dif_pos hd, dif_pos (by first | omega | (dsimp only; omega))]
    refine kV_congr V c ?_ ?_ ?_
    · first | rfl | omega | (dsimp only; omega)
    · rfl
    · first | rfl | omega | (dsimp only; omega)
  · rw [dif_neg hd, dif_neg (by first | omega | (dsimp only; omega))]
    refine vV_congr V c ?_ ?_ ?_
    · first | rfl | omega | (dsimp only; omega)
    · rfl
    · first | rfl | omega | (dsimp only; omega)

end Cert.KernelIdeal.Val
end
-- ==== Proof.Val.KE.lean ====
/-
What one tile of keys adds to the sums of the third kernel call, and what its
last product makes of them.
-/
module

public import proofs.«01_k».proof.Proof.Val.Spec
public import proofs.«01_k».proof.Proof.KI.R2
public import Idealize.ShloMosaic.Lib.Pipeline.ValueKit
public import Idealize.ShloMosaic.Lib.Affine
public import Idealize.ShloMosaic.Lib.WordArith
public import Idealize.ShloMosaic.Lib.WordCmp
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

theorem pay5_apply (off1 : Fin 3 → ℕ) (inb1) (off2 : Fin 3 → ℕ) (inb2) (g : Fin 4) (s : ℕ)
    (h1 : off1 = ![g.val, s * 256, 0]) (h2 : off2 = ![g.val, s * 256, 0]) (hs : s < 8)
    (v0 : Vec Ideal S1x1024x64 .bf16) (acc : FVec Ideal S1024x128 .f32)
    (x1 : Vec Ideal S4x2048x64 .bf16) (x2 : Vec Ideal S4x2048x128 .bf16) (r : Fin 1024) (e : Fin 128) :
    k2_pay5 (F := Ideal) v0 acc (View.ld x1 (Rect.unit (s := S4x2048x64) off1 S1x256x64.size inb1))
        (View.ld x2 (Rect.unit (s := S4x2048x128) off2 S1x256x128.size inb2)) (ix2 r e)
      = acc (ix2 r e) + ∑ x : Fin 256, Ideal.exp (∑ d : Fin 64, v0 (ix3 0 r d) * x1 (ix3 g ⟨s * 256 + x.val, by omega⟩ d))
          * x2 (ix3 g ⟨s * 256 + x.val, by omega⟩ e) := by
  subst h1 h2
  pointwise [k2_pay5, k2_pay2]

/-- Query row and key row of a tile compared as words: the key is not later. -/
theorem word_le (t : Fin 8) (s : ℕ) (hs : s < 8) (k : BitVec 32) (hk : k = BitVec.ofNat 32 s) (r : Fin 1024) (x : Fin 256) :
    (IntOp.subi (BitVec.ofNat 32 x.val) (IntOp.andi (BitVec.ofNat 32 r.val) 255#32)).toInt = (x.val : ℤ) - (r.val % 256 : ℕ)
    ∧ (Scalar.muli (Scalar.subi (BitVec.ofNat 32 t.val) k) 256#32).toInt = ((t.val : ℤ) - s) * 256
    ∧ (Scalar.subi (Scalar.muli (Scalar.subi (BitVec.ofNat 32 t.val) k) 256#32) 512#32).toInt = ((t.val : ℤ) - s) * 256 - 512 := by
  subst hk
  refine ⟨?_, ?_⟩
  · have h : ∀ r : Fin 1024, IntOp.andi (BitVec.ofNat 32 r.val) 255#32 = BitVec.ofNat 32 (r.val % 256) := by decide +kernel
    rw [h r]
    have h1 : (BitVec.ofNat 32 x.val).toInt = x.val := WordArith.toInt_ofNat_small _ (by omega)
    have h2 : (BitVec.ofNat 32 (r.val % 256)).toInt = (r.val % 256 : ℕ) := WordArith.toInt_ofNat_small _ (by omega)
    show (BitVec.ofNat 32 x.val - BitVec.ofNat 32 (r.val % 256)).toInt = _
    rw [BitVec.toInt_sub, h1, h2, Int.bmod_eq_of_le (by omega) (by omega)]
  · have h : ∀ t s : Fin 8, (Scalar.muli (Scalar.subi (BitVec.ofNat 32 t.val) (BitVec.ofNat 32 s.val)) 256#32).toInt = ((t.val : ℤ) - s.val) * 256
        ∧ (Scalar.subi (Scalar.muli (Scalar.subi (BitVec.ofNat 32 t.val) (BitVec.ofNat 32 s.val)) 256#32) 512#32).toInt = ((t.val : ℤ) - s.val) * 256 - 512 := by
      decide +kernel
    exact h t ⟨s, hs⟩

open Classical in
/-- One key's term of a query row's sums: its weight, zero where the key is not seen, times its
value. -/
def nearT (x0 : Vec Ideal S1x1024x64 .bf16) (x1 : Vec Ideal S4x2048x64 .bf16) (x3 : Vec Ideal S4x2048x128 .bf16)
    (x4 : Vec Ideal S4x1x2048 .f32) (t : ℕ) (g : Fin 4) (r : Fin 1024) (e : Fin 128) (j : Fin 2048) : EReal :=
  (if j.val ≤ t * 256 + r.val % 256 ∧ (t * 256 + r.val % 256 < j.val + 512 ∨ 0 < x4 (ix3 g 0 j)) then
    Ideal.exp (∑ d : Fin 64, x0 (ix3 0 r d) * x1 (ix3 g j d)) else 0) * x3 (ix3 g j e)

/-- One key's term where no mask is applied. -/
def farT (x0 : Vec Ideal S1x1024x64 .bf16) (x1 : Vec Ideal S4x2048x64 .bf16) (x2 : Vec Ideal S4x2048x128 .bf16)
    (g : Fin 4) (r : Fin 1024) (e : Fin 128) (j : Fin 2048) : EReal :=
  Ideal.exp (∑ d : Fin 64, x0 (ix3 0 r d) * x1 (ix3 g j d)) * x2 (ix3 g j e)

theorem mask_bot : (Named.named κ "maskK" 4048155338#32 : Ideal .f32) = (⊥ : EReal) := rfl

/-- The first coordinate of a point's tile. -/
theorem iv_eq (t : Fin 8) (k : ℕ) (hk : t.val - 2 + k < 8) :
    Scf.iv (Scalar.maxsi (Scalar.subi (BitVec.ofNat 32 t.val) 2#32) 0#32) 1#32 k = BitVec.ofNat 32 (t.val - 2 + k) := by
  have h : ∀ t k : Fin 8, Scf.iv (Scalar.maxsi (Scalar.subi (BitVec.ofNat 32 t.val) 2#32) 0#32) 1#32 k.val = BitVec.ofNat 32 (t.val - 2 + k.val) := by
    decide +kernel
  exact h t ⟨k, by omega⟩

theorem pay7_apply (i : grid2.Coords) (k : Fin (k2_t3_loop i).trips)
    (off1 : Fin 3 → ℕ) (inb1) (off3 : Fin 3 → ℕ) (inb3) (off4 : Fin 3 → ℕ) (inb4) (t : Fin 8) (hti : (i 0).val = t.val) (g : Fin 4) (s : ℕ)
    (h1 : off1 = ![g.val, s * 256, 0]) (h3 : off3 = ![g.val, s * 256, 0]) (h4 : off4 = ![g.val, 0, s * 256]) (hs : s < 8)
    (hk : s = t.val - 2 + k.val)
    (x0 : Vec Ideal S1x1024x64 .bf16) (acc : FVec Ideal S1024x128 .f32)
    (x1 : Vec Ideal S4x2048x64 .bf16) (x3 : Vec Ideal S4x2048x128 .bf16) (x4 : Vec Ideal S4x1x2048 .f32) (r : Fin 1024) (e : Fin 128) :
    k2_pay7 (F := Ideal) i x0 k acc (View.ld x1 (Rect.unit (s := S4x2048x64) off1 S1x256x64.size inb1))
        (View.ld x3 (Rect.unit (s := S4x2048x128) off3 S1x256x128.size inb3))
        (View.ld x4 (Rect.unit (s := S4x1x2048) off4 S1x1x256.size inb4)) (ix2 r e)
      = acc (ix2 r e) + ∑ x : Fin 256, nearT x0 x1 x3 x4 t.val g r e ⟨s * 256 + x.val, by omega⟩ := by
  subst h1 h3 h4
  pointwise [k2_pay7, k2_pay2, k2_pay3]
  rw [hti, iv_eq t k.val (by omega), mask_bot]
  refine congrArg (acc (ix2 r e) + ·) (Finset.sum_congr rfl fun x _ => ?_)
  refine congrArg₂ (· * ·) ?_ rfl
  have hw := word_le t s hs _ rfl r x
  rw [← hk]
  obtain ⟨w1, w2, w3⟩ := hw
  have hb : ∀ p : Bool, BitVec.ofBool p = 1#1 ↔ p = true := by decide
  have hc : IntOp.andi
      (IntOp.cmpi CmpIPredicate.sle (IntOp.subi (BitVec.ofNat 32 x.val) (IntOp.andi (BitVec.ofNat 32 r.val) 255#32))
        (Scalar.muli (Scalar.subi (BitVec.ofNat 32 t.val) (BitVec.ofNat 32 s)) 256#32))
      (IntOp.ori
        (IntOp.cmpi CmpIPredicate.sgt (IntOp.subi (BitVec.ofNat 32 x.val) (IntOp.andi (BitVec.ofNat 32 r.val) 255#32))
          (Scalar.subi (Scalar.muli (Scalar.subi (BitVec.ofNat 32 t.val) (BitVec.ofNat 32 s)) 256#32) 512#32))
        (BitVec.ofBool (decide (0 < x4 (ix3 g 0 ⟨s * 256 + x.val, by omega⟩))))) = 1#1
      ↔ (s * 256 + x.val ≤ t.val * 256 + r.val % 256 ∧ (t.val * 256 + r.val % 256 < s * 256 + x.val + 512 ∨ 0 < x4 (ix3 g 0 ⟨s * 256 + x.val, by omega⟩))) := by
    rw [IntOp.andi_eq_one, IntOp.ori_eq_one, IntOp.cmpi_sle, IntOp.cmpi_sgt, w1, w2, w3, hb, decide_eq_true_iff]
    refine and_congr (by omega) (or_congr (by omega) Iff.rfl)
  unfold Scalar.select
  by_cases h : (s * 256 + x.val ≤ t.val * 256 + r.val % 256 ∧ (t.val * 256 + r.val % 256 < s * 256 + x.val + 512 ∨ 0 < x4 (ix3 g 0 ⟨s * 256 + x.val, by omega⟩)))
  · rw [if_pos h]
    exact congrArg Ideal.exp (if_pos (hc.mpr h))
  · rw [if_neg h]
    exact (congrArg Ideal.exp (if_neg (fun a => h (hc.mp a)))).trans Ideal.exp_bot

theorem pay9_apply (off1 : Fin 3 → ℕ) (inb1) (g : Fin 4)
    (h1 : off1 = ![g.val, 0, 0]) (a : FVec Ideal S1024x128 .f32)
    (x5 : Vec Ideal S4x256x1024 .f32) (r : Fin 256) (n : Fin 1024) :
    k2_pay9 (F := Ideal) a (View.ld x5 (Rect.unit (s := S4x256x1024) off1 S1x256x1024.size inb1)) (ix2 r n)
      = ∑ x : Fin 256, Ideal.div (a (ix2 ⟨x.val / 64 * 256 + r.val, by omega⟩ ⟨x.val % 64, by omega⟩)) (a (ix2 ⟨x.val / 64 * 256 + r.val, by omega⟩ 64)) * x5 (ix3 g x n) := by
  subst h1
  pointwise [k2_pay9]
  refine Finset.sum_congr rfl fun x _ => congrArg₂ (· * ·) ?_ rfl
  have hx := x.isLt
  have key : ∀ (p p' : Fin 1024) (q q' : Fin 128), p.val = p'.val → q.val = q'.val →
      Ideal.div (a (ix2 p q)) (a (ix2 p 64)) = Ideal.div (a (ix2 p' q')) (a (ix2 p' 64)) := by
    intro p p' q q' hp hq; rw [Fin.ext hp, Fin.ext hq]
  split
  · exact key _ _ _ _ (by dsimp only; omega) (by dsimp only; omega)
  · split
    · exact key _ _ _ _ (by dsimp only; omega) (by dsimp only; omega)
    · split
      · exact key _ _ _ _ (by dsimp only; omega) (by dsimp only; omega)
      · exact key _ _ _ _ (by dsimp only; omega) (by dsimp only; omega)

theorem tr1 (i : grid2.Coords) : (k2_t1_loop i).trips = (i 0).val - 2 := by
  have h : ∀ a : Fin 8, Scf.trips 0#32 (Scalar.addi 0#32 (Scalar.muli (Scalar.divsi (Scalar.subi (Scalar.maxsi (Scalar.subi (BitVec.ofNat 32 a.val) 2#32) 0#32) 0#32) 1#32) 1#32)) 1#32 = a.val - 2 := by
    decide +kernel
  exact h (i 0)
theorem tr2 (i : grid2.Coords) : (k2_t2_loop i).trips = 0 := by
  have h : ∀ a : Fin 8, Scf.trips (Scalar.addi 0#32 (Scalar.muli (Scalar.divsi (Scalar.subi (Scalar.maxsi (Scalar.subi (BitVec.ofNat 32 a.val) 2#32) 0#32) 0#32) 1#32) 1#32))
      (Scalar.addi 0#32 (Scalar.subi (Scalar.maxsi (Scalar.subi (BitVec.ofNat 32 a.val) 2#32) 0#32) 0#32)) 1#32 = 0 := by
    decide +kernel
  exact h (i 0)
theorem tr3 (i : grid2.Coords) : (k2_t3_loop i).trips = (i 0).val + 1 - ((i 0).val - 2) := by
  have h : ∀ a : Fin 8, Scf.trips (Scalar.maxsi (Scalar.subi (BitVec.ofNat 32 a.val) 2#32) 0#32)
      (Scalar.addi (Scalar.maxsi (Scalar.subi (BitVec.ofNat 32 a.val) 2#32) 0#32)
        (Scalar.muli (Scalar.divsi (Scalar.subi (Scalar.addi (BitVec.ofNat 32 a.val) 1#32)
          (Scalar.maxsi (Scalar.subi (BitVec.ofNat 32 a.val) 2#32) 0#32)) 1#32) 1#32)) 1#32 = a.val + 1 - (a.val - 2) := by
    decide +kernel
  exact h (i 0)
theorem tr4 (i : grid2.Coords) : (k2_t4_loop i).trips = 0 := by
  have h : ∀ a : Fin 8, Scf.trips (Scalar.addi (Scalar.maxsi (Scalar.subi (BitVec.ofNat 32 a.val) 2#32) 0#32)
        (Scalar.muli (Scalar.divsi (Scalar.subi (Scalar.addi (BitVec.ofNat 32 a.val) 1#32)
          (Scalar.maxsi (Scalar.subi (BitVec.ofNat 32 a.val) 2#32) 0#32)) 1#32) 1#32))
      (Scalar.addi (Scalar.maxsi (Scalar.subi (BitVec.ofNat 32 a.val) 2#32) 0#32)
        (Scalar.subi (Scalar.addi (BitVec.ofNat 32 a.val) 1#32) (Scalar.maxsi (Scalar.subi (BitVec.ofNat 32 a.val) 2#32) 0#32))) 1#32 = 0 := by
    decide +kernel
  exact h (i 0)

theorem word_g (g : Fin 4) : (Scalar.indexCast (BitVec.ofNat 32 g.val) : Index).toNat = g.val :=
  (by decide +kernel : ∀ g : Fin 4, (Scalar.indexCast (BitVec.ofNat 32 g.val) : Index).toNat = g.val) g
theorem word_s (s : Fin 8) : (Scalar.indexCast (Scalar.muli (BitVec.ofNat 32 s.val) 256#32) : Index).toNat = s.val * 256 :=
  (by decide +kernel : ∀ s : Fin 8, (Scalar.indexCast (Scalar.muli (BitVec.ofNat 32 s.val) 256#32) : Index).toNat = s.val * 256) s
theorem iv0_eq (k : ℕ) (hk : k < 8) : Scf.iv 0#32 1#32 k = BitVec.ofNat 32 k :=
  (by decide +kernel : ∀ k : Fin 8, Scf.iv 0#32 1#32 k.val = BitVec.ofNat 32 k.val) ⟨k, hk⟩

theorem off1_eq (i : grid2.Coords) (k : Fin (k2_t1_loop i).trips) : k2_off1 i k = ![(i 1).val, k.val * 256, 0] := by
  have h0 : (i 0).val < 8 := (i 0).isLt
  have hk : k.val < 8 := by have := lt_of_lt_of_eq k.isLt (tr1 i); omega
  unfold k2_off1
  dsimp only
  rw [iv0_eq _ hk, word_g (i 1), word_s ⟨k.val, hk⟩]
theorem off2_eq (i : grid2.Coords) (k : Fin (k2_t1_loop i).trips) : k2_off2 i k = ![(i 1).val, k.val * 256, 0] := off1_eq i k
theorem near_lt (i : grid2.Coords) (k : Fin (k2_t3_loop i).trips) : (i 0).val - 2 + k.val < 8 := by
  have h0 : (i 0).val < 8 := (i 0).isLt
  have := lt_of_lt_of_eq k.isLt (tr3 i); omega
theorem off5_eq (i : grid2.Coords) (k : Fin (k2_t3_loop i).trips) : k2_off5 i k = ![(i 1).val, ((i 0).val - 2 + k.val) * 256, 0] := by
  have h := near_lt i k
  unfold k2_off5
  dsimp only
  rw [iv_eq (i 0) _ h, word_g (i 1), word_s ⟨_, h⟩]
theorem off6_eq (i : grid2.Coords) (k : Fin (k2_t3_loop i).trips) : k2_off6 i k = ![(i 1).val, ((i 0).val - 2 + k.val) * 256, 0] := off5_eq i k
theorem off7_eq (i : grid2.Coords) (k : Fin (k2_t3_loop i).trips) : k2_off7 i k = ![(i 1).val, 0, ((i 0).val - 2 + k.val) * 256] := by
  have h := near_lt i k
  unfold k2_off7
  dsimp only
  rw [iv_eq (i 0) _ h, word_g (i 1), word_s ⟨_, h⟩]
theorem off11_eq (i : grid2.Coords) : k2_off11 i = ![(i 1).val, 0, 0] := by
  unfold k2_off11
  dsimp only
  rw [word_g (i 1)]
end Cert.KernelIdeal.Val
end
-- ==== Proof.Val.KF.lean ====
/-
The loops of the third kernel call: the sums over all keys, and the block one
group adds.
-/
module
public import proofs.«01_k».proof.Proof.Val.KE
public import Idealize.ShloMosaic.Lib.Pipeline.ValueKit
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

/-- The sum of a term over the keys of one tile. -/
def tileSum (T : Fin 2048 → EReal) (s : ℕ) : EReal :=
  ∑ x : Fin 256, if h : s * 256 + x.val < 2048 then T ⟨s * 256 + x.val, h⟩ else 0

theorem tileSum_of (T : Fin 2048 → EReal) (s : ℕ) (hs : s < 8) :
    tileSum T s = ∑ x : Fin 256, T ⟨s * 256 + x.val, by omega⟩ :=
  Finset.sum_congr rfl fun x _ => dif_pos (by omega)

/-- Tiles before `a` by one term, the ones from `a` to `b` by another that vanishes past `b` and
agrees with the first before `a`: the sum of the second over all keys. -/
theorem tiles_sum (F N : Fin 2048 → EReal) (a b : ℕ) (hab : a ≤ b) (hb : b ≤ 8)
    (hF : ∀ j : Fin 2048, j.val / 256 < a → F j = N j) (hN : ∀ j : Fin 2048, b ≤ j.val / 256 → N j = 0) :
    ∑ s ∈ Finset.range a, tileSum F s + ∑ s ∈ Finset.range (b - a), tileSum N (a + s) = ∑ j, N j := by
  have e1 : ∑ s ∈ Finset.range a, tileSum F s = ∑ s ∈ Finset.range a, tileSum N s := by
    refine Finset.sum_congr rfl fun s hs => ?_
    have hs := Finset.mem_range.mp hs
    rw [tileSum_of _ _ (by omega), tileSum_of _ _ (by omega)]
    exact Finset.sum_congr rfl fun x _ => hF _ (by dsimp only; omega)
  rw [e1, ← Finset.sum_range_add, Nat.add_sub_cancel' hab]
  have e2 : ∑ s ∈ Finset.range b, tileSum N s = ∑ s ∈ Finset.range 8, tileSum N s := by
    refine Finset.sum_subset (Finset.range_subset_range.mpr hb) fun s h1 h2 => ?_
    have h1 := Finset.mem_range.mp h1
    have h2 : ¬ s < b := fun h => h2 (Finset.mem_range.mpr h)
    rw [tileSum_of _ _ h1]
    exact Finset.sum_eq_zero fun x _ => hN _ (by dsimp only; omega)
  rw [e2, Finset.sum_range, Fin.sum_univ_tiles 8 256 rfl N]
  exact Finset.sum_congr rfl fun s _ => tileSum_of N s.val s.isLt

section
variable (c : Dev nD) (i : grid2.Coords) (arg2 : Memref sig .tc .vmem S1x1024x64 .bf16) (harg2 : arg2.IsWhole) (arg3 : Memref sig .tc .vmem S4x2048x64 .bf16) (harg3 : arg3.IsWhole) (arg4 : Memref sig .tc .vmem S4x2048x128 .bf16) (harg4 : arg4.IsWhole) (arg5 : Memref sig .tc .vmem S4x2048x128 .bf16) (harg5 : arg5.IsWhole) (arg6 : Memref sig .tc .vmem S4x1x2048 .f32) (harg6 : arg6.IsWhole) (arg7 : Memref sig .tc .vmem S4x256x1024 .f32) (harg7 : arg7.IsWhole) (arg8 : Memref sig .tc .vmem S256x1024 .f32) (harg8 : arg8.IsWhole)
  (x0 : Vec Ideal S1x1024x64 .bf16) (x1 : Vec Ideal S4x2048x64 .bf16) (x2 : Vec Ideal S4x2048x128 .bf16) (x3 : Vec Ideal S4x2048x128 .bf16) (x4 : Vec Ideal S4x1x2048 .f32) (x5 : Vec Ideal S4x256x1024 .f32)

/-- One trip of the first loop: the payload on the two tiles it loads. -/
theorem trip1 (k : Fin (k2_t1_loop i).trips) (acc : FVec Ideal S1024x128 .f32) :
    tripR_k2_t1 (F := Ideal) Variants.none c none i arg2 harg2 arg3 harg3 arg4 harg4 arg5 harg5 arg6 harg6 arg7 harg7 arg8 harg8 x0 (harg3.unread x1) (harg4.unread x2) k acc
      = k2_pay5 x0 acc (View.ld x1 (Rect.unit (s := S4x2048x64) (k2_off1 i k) S1x256x64.size (k2_off1_inb i k)))
        (View.ld x2 (Rect.unit (s := S4x2048x128) (k2_off2 i k) S1x256x128.size (k2_off2_inb i k))) := by
  unfold tripR_k2_t1 trip_k2_t1
  frame_out

/-- One trip of the third loop: the payload on the three tiles it loads. -/
theorem trip3 (k : Fin (k2_t3_loop i).trips) (acc : FVec Ideal S1024x128 .f32) :
    tripR_k2_t3 (F := Ideal) Variants.none c none i arg2 harg2 arg3 harg3 arg4 harg4 arg5 harg5 arg6 harg6 arg7 harg7 arg8 harg8 x0 (harg3.unread x1) (harg5.unread x3) (harg6.unread x4) k acc
      = k2_pay7 i x0 k acc (View.ld x1 (Rect.unit (s := S4x2048x64) (k2_off5 i k) S1x256x64.size (k2_off5_inb i k)))
        (View.ld x3 (Rect.unit (s := S4x2048x128) (k2_off6 i k) S1x256x128.size (k2_off6_inb i k)))
        (View.ld x4 (Rect.unit (s := S4x1x2048) (k2_off7 i k) S1x1x256.size (k2_off7_inb i k))) := by
  unfold tripR_k2_t3 trip_k2_t3
  frame_out

/-- The first loop's sums before trip `n`. -/
theorem st1 (init : FVec Ideal S1024x128 .f32) (r : Fin 1024) (e : Fin 128) : ∀ (n : ℕ) (h : n ≤ (k2_t1_loop i).trips),
    st_k2_t1 (F := Ideal) Variants.none c none i arg2 harg2 arg3 harg3 arg4 harg4 arg5 harg5 arg6 harg6 arg7 harg7 arg8 harg8 x0 (harg3.unread x1) (harg4.unread x2) init n (ix2 r e)
      = init (ix2 r e) + ∑ s ∈ Finset.range n, tileSum (farT x0 x1 x2 (i 1) r e) s
  | 0, _ => by rw [st_k2_t1_zero, Finset.sum_range_zero, add_zero]
  | n + 1, h => by
    have h0 : (i 0).val < 8 := (i 0).isLt
    have hn : n < 8 := by have := tr1 i; omega
    rw [st_k2_t1_succ Variants.none c none i arg2 harg2 arg3 harg3 arg4 harg4 arg5 harg5 arg6 harg6 arg7 harg7 arg8 harg8 x0 (harg3.unread x1) (harg4.unread x2) init ⟨n, h⟩,
      trip1, pay5_apply _ _ _ _ (i 1) n (off1_eq i ⟨n, h⟩) (off2_eq i ⟨n, h⟩) hn,
      st1 init r e n (by omega), Finset.sum_range_succ, add_assoc, tileSum_of _ _ hn]
    rfl

/-- The third loop's sums before trip `n`. -/
theorem st3 (init : FVec Ideal S1024x128 .f32) (r : Fin 1024) (e : Fin 128) : ∀ (n : ℕ) (h : n ≤ (k2_t3_loop i).trips),
    st_k2_t3 (F := Ideal) Variants.none c none i arg2 harg2 arg3 harg3 arg4 harg4 arg5 harg5 arg6 harg6 arg7 harg7 arg8 harg8 x0 (harg3.unread x1) (harg5.unread x3) (harg6.unread x4) init n (ix2 r e)
      = init (ix2 r e) + ∑ s ∈ Finset.range n, tileSum (nearT x0 x1 x3 x4 (i 0).val (i 1) r e) ((i 0).val - 2 + s)
  | 0, _ => by rw [st_k2_t3_zero, Finset.sum_range_zero, add_zero]
  | n + 1, h => by
    have hn := near_lt i ⟨n, h⟩
    rw [st_k2_t3_succ Variants.none c none i arg2 harg2 arg3 harg3 arg4 harg4 arg5 harg5 arg6 harg6 arg7 harg7 arg8 harg8 x0 (harg3.unread x1) (harg5.unread x3) (harg6.unread x4) init ⟨n, h⟩,
      trip3, pay7_apply i ⟨n, h⟩ _ _ _ _ _ _ (i 0) rfl (i 1) _ (off5_eq i ⟨n, h⟩) (off6_eq i ⟨n, h⟩) (off7_eq i ⟨n, h⟩) hn rfl,
      st3 init r e n (by omega), Finset.sum_range_succ, add_assoc, tileSum_of _ _ hn]

/-- The second loop makes no trip. -/
theorem st2 (init : FVec Ideal S1024x128 .f32) (n : ℕ) (h : n = 0) :
    st_k2_t2 (F := Ideal) Variants.none c none i arg2 harg2 arg3 harg3 arg4 harg4 arg5 harg5 arg6 harg6 arg7 harg7 arg8 harg8 x0 (harg3.unread x1) (harg4.unread x2) init n = init := by
  subst h; exact st_k2_t2_zero ..
/-- The fourth loop makes no trip. -/
theorem st4 (init : FVec Ideal S1024x128 .f32) (n : ℕ) (h : n = 0) :
    st_k2_t4 (F := Ideal) Variants.none c none i arg2 harg2 arg3 harg3 arg4 harg4 arg5 harg5 arg6 harg6 arg7 harg7 arg8 harg8 x0 (harg3.unread x1) (harg5.unread x3) (harg6.unread x4) init n = init := by
  subst h; exact st_k2_t4_zero ..

/-- What one group adds to a block of the result, its sums `A` given. -/
def groupOut (A : Fin 1024 → Fin 128 → EReal) (x5 : Vec Ideal S4x256x1024 .f32) (g : Fin 4) (r : Fin 256) (n : Fin 1024) : EReal :=
  ∑ x : Fin 256, Ideal.div (A ⟨x.val / 64 * 256 + r.val, by omega⟩ ⟨x.val % 64, by omega⟩)
    (A ⟨x.val / 64 * 256 + r.val, by omega⟩ 64) * x5 (ix3 g x n)

/-- Where the selection is zero or one and the first loop's values are the others times it, the
sums run over all keys with one mask. -/
theorem sums (hs : ∀ j : Fin 2048, x4 (ix3 (i 1) 0 j) = 0 ∨ x4 (ix3 (i 1) 0 j) = 1)
    (hv : ∀ (j : Fin 2048) (e : Fin 128), x2 (ix3 (i 1) j e) = x3 (ix3 (i 1) j e) * x4 (ix3 (i 1) 0 j))
    (n1 n2 n3 n4 : ℕ) (h1 : n1 = (k2_t1_loop i).trips) (h2 : n2 = (k2_t2_loop i).trips) (h3 : n3 = (k2_t3_loop i).trips) (h4 : n4 = (k2_t4_loop i).trips)
    (r : Fin 1024) (e : Fin 128) :
    (st_k2_t4 (F := Ideal) Variants.none c none i arg2 harg2 arg3 harg3 arg4 harg4 arg5 harg5 arg6 harg6 arg7 harg7 arg8 harg8 x0 (harg3.unread x1) (harg5.unread x3) (harg6.unread x4)
      (st_k2_t3 (F := Ideal) Variants.none c none i arg2 harg2 arg3 harg3 arg4 harg4 arg5 harg5 arg6 harg6 arg7 harg7 arg8 harg8 x0 (harg3.unread x1) (harg5.unread x3) (harg6.unread x4)
      (st_k2_t2 (F := Ideal) Variants.none c none i arg2 harg2 arg3 harg3 arg4 harg4 arg5 harg5 arg6 harg6 arg7 harg7 arg8 harg8 x0 (harg3.unread x1) (harg4.unread x2)
      (st_k2_t1 (F := Ideal) Variants.none c none i arg2 harg2 arg3 harg3 arg4 harg4 arg5 harg5 arg6 harg6 arg7 harg7 arg8 harg8 x0 (harg3.unread x1) (harg4.unread x2) k2_pay4 n1) n2) n3) n4) (ix2 r e)
    = ∑ j : Fin 2048, nearT x0 x1 x3 x4 (i 0).val (i 1) r e j := by
  have h0 : (i 0).val < 8 := (i 0).isLt
  rw [st4 (h := h4.trans (tr4 i)), st3 (n := n3) (h := h3.le), st2 (h := h2.trans (tr2 i)), st1 (n := n1) (h := h1.le), h1, h3, tr1 i, tr3 i]
  have hz : (k2_pay4 (F := Ideal)) (ix2 r e) = (0 : EReal) := by pointwise [k2_pay4]
  rw [hz, zero_add]
  refine tiles_sum _ _ _ _ (by omega) (by omega) (fun j hj => ?_) (fun j hj => ?_)
  · unfold farT nearT
    rw [hv j e]
    rcases hs j with h | h
    · rw [h, if_neg (fun a => by rcases a.2 with b | b; · omega
                                 · exact lt_irrefl _ b), mul_zero, mul_zero, zero_mul]
    · rw [h, if_pos ⟨by omega, .inr zero_lt_one⟩, mul_one]
  · unfold nearT
    rw [if_neg (fun a => by omega), zero_mul]

/-- The first group's block. -/
theorem outA_apply (hc0 : cond2_0 i) (hc1 : ¬cond2_1 i)
    (hs : ∀ j : Fin 2048, x4 (ix3 (i 1) 0 j) = 0 ∨ x4 (ix3 (i 1) 0 j) = 1)
    (hv : ∀ (j : Fin 2048) (e : Fin 128), x2 (ix3 (i 1) j e) = x3 (ix3 (i 1) j e) * x4 (ix3 (i 1) 0 j))
    (r : Fin 256) (n : Fin 1024) :
    out2_A_6 (F := Ideal) c i arg2 harg2 arg3 harg3 arg4 harg4 arg5 harg5 arg6 harg6 arg7 harg7 arg8 harg8 hc0 hc1 x0 x1 x2 x3 x4 x5 (ix2 r n)
      = groupOut (fun r e => ∑ j : Fin 2048, nearT x0 x1 x3 x4 (i 0).val (i 1) r e j) x5 (i 1) r n := by
  unfold out2_A_6
  frame_out
  rw [pay9_apply _ _ (i 1) (off11_eq i)]
  unfold groupOut
  refine Finset.sum_congr rfl fun x _ => ?_
  rw [sums (hs := hs) (hv := hv) (h1 := rfl) (h2 := rfl) (h3 := rfl) (h4 := rfl), sums (hs := hs) (hv := hv) (h1 := rfl) (h2 := rfl) (h3 := rfl) (h4 := rfl)]

/-- A later group's block: added to what is there. -/
theorem outB_apply (hc0 : ¬cond2_0 i) (hc1 : cond2_1 i) (xo : Vec Ideal S256x1024 .f32)
    (hs : ∀ j : Fin 2048, x4 (ix3 (i 1) 0 j) = 0 ∨ x4 (ix3 (i 1) 0 j) = 1)
    (hv : ∀ (j : Fin 2048) (e : Fin 128), x2 (ix3 (i 1) j e) = x3 (ix3 (i 1) j e) * x4 (ix3 (i 1) 0 j))
    (r : Fin 256) (n : Fin 1024) :
    out2_B_6 (F := Ideal) c i arg2 harg2 arg3 harg3 arg4 harg4 arg5 harg5 arg6 harg6 arg7 harg7 arg8 harg8 hc0 hc1 x0 x1 x2 x3 x4 x5 xo (ix2 r n)
      = xo (ix2 r n) + groupOut (fun r e => ∑ j : Fin 2048, nearT x0 x1 x3 x4 (i 0).val (i 1) r e j) x5 (i 1) r n := by
  unfold out2_B_6
  frame_out
  pointwise [k2_pay1]
  rw [pay9_apply _ _ (i 1) (off11_eq i)]
  unfold groupOut
  refine congrArg (xo (ix2 r n) + ·) (Finset.sum_congr rfl fun x _ => ?_)
  rw [sums (hs := hs) (hv := hv) (h1 := rfl) (h2 := rfl) (h3 := rfl) (h4 := rfl), sums (hs := hs) (hv := hv) (h1 := rfl) (h2 := rfl) (h3 := rfl) (h4 := rfl)]
end
end Cert.KernelIdeal.Val
end
-- ==== Proof.Val.KC.lean ====
/-
What one group of the second kernel call computes: the router's logit and the
selection made of it.
-/
module
public import proofs.«01_k».proof.Proof.KI.R1
public import proofs.«01_k».proof.Proof.Val.Spec
public import Idealize.ShloMosaic.Lib.Pipeline.ValueKit
public import Idealize.ShloMosaic.Lib.WordArith
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

/-- Layer 1 of one group on its vectors: three shifted products, the bias and the activation. -/
def kl1 (x : FVec Ideal S2048x128 .f32) (w0 w1 w2 : FVec Ideal S1x128x64 .f32) (b : FVec Ideal S1x64 .f32) :
    FVec Ideal S2048x64 .f32 :=
  have e : FVec Ideal S1x128 .f32 := broadcast S1x128 (Scalar.ofBits .f32 0x00000000#32)
  have z : FVec Ideal S2048x64 .f32 := addf (addf (addf
      (matmul dot_S2048x128_S128x64_S2048x64_1_0_0_1_n_n none
        (concatenate S2048x128 0 [⟨S1x128, e⟩, ⟨S2047x128, extractStridedSlice S2047x128 ![0, 0] x slices_S2048x128_o0_0_S2047x128⟩]
          concatenates_S1x128_S2047x128_S2048x128_d0)
        (shapeCast S128x64 w0 shapeCasts_S1x128x64_S128x64) (constant S2048x64 .f32 0x00000000#32))
      (matmul dot_S2048x128_S128x64_S2048x64_1_0_0_1_n_n none x
        (shapeCast S128x64 w1 shapeCasts_S1x128x64_S128x64) (constant S2048x64 .f32 0x00000000#32)))
      (matmul dot_S2048x128_S128x64_S2048x64_1_0_0_1_n_n none
        (concatenate S2048x128 0 [⟨S2047x128, extractStridedSlice S2047x128 ![1, 0] x slices_S2048x128_o1_0_S2047x128⟩, ⟨S1x128, e⟩]
          concatenates_S2047x128_S1x128_S2048x128_d0)
        (shapeCast S128x64 w2 shapeCasts_S1x128x64_S128x64) (constant S2048x64 .f32 0x00000000#32)))
    (broadcastTo S2048x64 (shapeCast S1x64 b shapeCasts_S1x64_S1x64) broadcasts_S1x64_S2048x64)
  mulf z (logistic z)

/-- Layer 2 of one group on its vectors: three shifted products, the bias and the activation. -/
def kl2 (x : FVec Ideal S2048x64 .f32) (w0 w1 w2 : FVec Ideal S1x64x32 .f32) (b : FVec Ideal S1x32 .f32) :
    FVec Ideal S2048x32 .f32 :=
  have e : FVec Ideal S1x64 .f32 := broadcast S1x64 (Scalar.ofBits .f32 0x00000000#32)
  have z : FVec Ideal S2048x32 .f32 := addf (addf (addf
      (matmul dot_S2048x64_S64x32_S2048x32_1_0_0_1_n_n none
        (concatenate S2048x64 0 [⟨S1x64, e⟩, ⟨S2047x64, extractStridedSlice S2047x64 ![0, 0] x slices_S2048x64_o0_0_S2047x64⟩]
          concatenates_S1x64_S2047x64_S2048x64_d0)
        (shapeCast S64x32 w0 shapeCasts_S1x64x32_S64x32) (constant S2048x32 .f32 0x00000000#32))
      (matmul dot_S2048x64_S64x32_S2048x32_1_0_0_1_n_n none x
        (shapeCast S64x32 w1 shapeCasts_S1x64x32_S64x32) (constant S2048x32 .f32 0x00000000#32)))
      (matmul dot_S2048x64_S64x32_S2048x32_1_0_0_1_n_n none
        (concatenate S2048x64 0 [⟨S2047x64, extractStridedSlice S2047x64 ![1, 0] x slices_S2048x64_o1_0_S2047x64⟩, ⟨S1x64, e⟩]
          concatenates_S2047x64_S1x64_S2048x64_d0)
        (shapeCast S64x32 w2 shapeCasts_S1x64x32_S64x32) (constant S2048x32 .f32 0x00000000#32)))
    (broadcastTo S2048x32 (shapeCast S1x32 b shapeCasts_S1x32_S1x32) broadcasts_S1x32_S2048x32)
  mulf z (logistic z)

/-- Layer 3 of one group on its vectors: three shifted products, the bias and the activation. -/
def kl3 (x : FVec Ideal S2048x32 .f32) (w0 w1 w2 : FVec Ideal S1x32x16 .f32) (b : FVec Ideal S1x16 .f32) :
    FVec Ideal S2048x16 .f32 :=
  have e : FVec Ideal S1x32 .f32 := broadcast S1x32 (Scalar.ofBits .f32 0x00000000#32)
  have z : FVec Ideal S2048x16 .f32 := addf (addf (addf
      (matmul dot_S2048x32_S32x16_S2048x16_1_0_0_1_n_n none
        (concatenate S2048x32 0 [⟨S1x32, e⟩, ⟨S2047x32, extractStridedSlice S2047x32 ![0, 0] x slices_S2048x32_o0_0_S2047x32⟩]
          concatenates_S1x32_S2047x32_S2048x32_d0)
        (shapeCast S32x16 w0 shapeCasts_S1x32x16_S32x16) (constant S2048x16 .f32 0x00000000#32))
      (matmul dot_S2048x32_S32x16_S2048x16_1_0_0_1_n_n none x
        (shapeCast S32x16 w1 shapeCasts_S1x32x16_S32x16) (constant S2048x16 .f32 0x00000000#32)))
      (matmul dot_S2048x32_S32x16_S2048x16_1_0_0_1_n_n none
        (concatenate S2048x32 0 [⟨S2047x32, extractStridedSlice S2047x32 ![1, 0] x slices_S2048x32_o1_0_S2047x32⟩, ⟨S1x32, e⟩]
          concatenates_S2047x32_S1x32_S2048x32_d0)
        (shapeCast S32x16 w2 shapeCasts_S1x32x16_S32x16) (constant S2048x16 .f32 0x00000000#32)))
    (broadcastTo S2048x16 (shapeCast S1x16 b shapeCasts_S1x16_S1x16) broadcasts_S1x16_S2048x16)
  mulf z (logistic z)

theorem before_eq {C : ℕ} (X : Fin 2048 → Fin C → EReal) (i : Fin 2048) (c : Fin C) :
    (if h : i.val < 1 then (0 : EReal) else X ⟨i.val - 1, by omega⟩ c) = before X i c := by
  unfold before
  split_ifs <;> first | rfl | omega
theorem after_eq {C : ℕ} (X : Fin 2048 → Fin C → EReal) (i : Fin 2048) (c : Fin C) :
    (if h : i.val < 2047 then X ⟨1 + i.val, by omega⟩ c else (0 : EReal)) = after X i c := by
  unfold after
  by_cases h : i.val < 2047
  · rw [dif_pos h, dif_pos (by omega)]
    exact congrArg (fun j => X j c) (Fin.ext (Nat.add_comm 1 i.val))
  · rw [dif_neg h, dif_neg (by omega)]

/-- Layer 1, entry by entry. -/
theorem kl1_apply (x : FVec Ideal S2048x128 .f32) (w0 w1 w2 : FVec Ideal S1x128x64 .f32) (b : FVec Ideal S1x64 .f32)
    (w : Fin 64 → Fin 3 → Fin 128 → EReal) (bb : Fin 64 → EReal) (X : Fin 2048 → Fin 128 → EReal)
    (h0 : ∀ d c, w0 (ix3 0 c d) = w d 0 c) (h1 : ∀ d c, w1 (ix3 0 c d) = w d 1 c) (h2 : ∀ d c, w2 (ix3 0 c d) = w d 2 c)
    (hb : ∀ d, b (ix2 0 d) = bb d) (hx : ∀ i c, x (ix2 i c) = X i c) (i : Fin 2048) (d : Fin 64) :
    kl1 x w0 w1 w2 b (ix2 i d) = layers w bb X i d := by
  pointwise [kl1]
  simp only [h0, h1, h2, hb, hx]
  have e0 : ∀ c, (if h : i.val < 1 then (0 : EReal) else X ⟨i.val - 1, by omega⟩ c) = before X i c := before_eq X i
  have e2 : ∀ c, (if h : i.val < 2047 then X ⟨1 + i.val, by omega⟩ c else (0 : EReal)) = after X i c := after_eq X i
  simp only [e0, e2]
  rfl

/-- Layer 2, entry by entry. -/
theorem kl2_apply (x : FVec Ideal S2048x64 .f32) (w0 w1 w2 : FVec Ideal S1x64x32 .f32) (b : FVec Ideal S1x32 .f32)
    (w : Fin 32 → Fin 3 → Fin 64 → EReal) (bb : Fin 32 → EReal) (X : Fin 2048 → Fin 64 → EReal)
    (h0 : ∀ d c, w0 (ix3 0 c d) = w d 0 c) (h1 : ∀ d c, w1 (ix3 0 c d) = w d 1 c) (h2 : ∀ d c, w2 (ix3 0 c d) = w d 2 c)
    (hb : ∀ d, b (ix2 0 d) = bb d) (hx : ∀ i c, x (ix2 i c) = X i c) (i : Fin 2048) (d : Fin 32) :
    kl2 x w0 w1 w2 b (ix2 i d) = layers w bb X i d := by
  pointwise [kl2]
  simp only [h0, h1, h2, hb, hx]
  have e0 : ∀ c, (if h : i.val < 1 then (0 : EReal) else X ⟨i.val - 1, by omega⟩ c) = before X i c := before_eq X i
  have e2 : ∀ c, (if h : i.val < 2047 then X ⟨1 + i.val, by omega⟩ c else (0 : EReal)) = after X i c := after_eq X i
  simp only [e0, e2]
  rfl

/-- Layer 3, entry by entry. -/
theorem kl3_apply (x : FVec Ideal S2048x32 .f32) (w0 w1 w2 : FVec Ideal S1x32x16 .f32) (b : FVec Ideal S1x16 .f32)
    (w : Fin 16 → Fin 3 → Fin 32 → EReal) (bb : Fin 16 → EReal) (X : Fin 2048 → Fin 32 → EReal)
    (h0 : ∀ d c, w0 (ix3 0 c d) = w d 0 c) (h1 : ∀ d c, w1 (ix3 0 c d) = w d 1 c) (h2 : ∀ d c, w2 (ix3 0 c d) = w d 2 c)
    (hb : ∀ d, b (ix2 0 d) = bb d) (hx : ∀ i c, x (ix2 i c) = X i c) (i : Fin 2048) (d : Fin 16) :
    kl3 x w0 w1 w2 b (ix2 i d) = layers w bb X i d := by
  pointwise [kl3]
  simp only [h0, h1, h2, hb, hx]
  have e0 : ∀ c, (if h : i.val < 1 then (0 : EReal) else X ⟨i.val - 1, by omega⟩ c) = before X i c := before_eq X i
  have e2 : ∀ c, (if h : i.val < 2047 then X ⟨1 + i.val, by omega⟩ c else (0 : EReal)) = after X i c := after_eq X i
  simp only [e0, e2]
  rfl

/-- The logit column of one group on its vectors. -/
def klg (x : FVec Ideal S2048x16 .f32) (p : FVec Ideal S1x16 .f32) (pb : FVec Ideal S1x1 .f32) : FVec Ideal S2048x1 .f32 :=
  addf (shapeCast S2048x1 (multiReduction .add [1] S2048
      (mulf x (broadcastTo S2048x16 (shapeCast S1x16 p shapeCasts_S1x16_S1x16) broadcasts_S1x16_S2048x16))
      0x00000000#32 reduces_S2048x16_S2048 (.inl rfl) rfl) shapeCasts_S2048_S2048x1)
    (broadcast S2048x1 (extractAt ![0, 0] pb inpos_S1x1_p0_0))

/-- The selection column: one where the logit is positive or the row is among the first four. -/
def kmask (l : FVec Ideal S2048x1 .f32) : FVec Ideal S2048x1 .f32 :=
  select (ori (cmpf .ogt l (broadcast S2048x1 (Scalar.ofBits .f32 0x00000000#32)))
      (cmpi .slt (iota .tc S2048x1 32 [0] iota_S2048x1_d0_w32) (broadcast S2048x1 4#32)))
    (broadcast S2048x1 (Scalar.ofBits .f32 0x3F800000#32)) (broadcast S2048x1 (Scalar.ofBits .f32 0x00000000#32))

theorem klg_apply (x : FVec Ideal S2048x16 .f32) (p : FVec Ideal S1x16 .f32) (pb : FVec Ideal S1x1 .f32) (i : Fin 2048) :
    klg x p pb (ix2 i 0) = ∑ c : Fin 16, x (ix2 i c) * p (ix2 0 c) + pb (ix2 0 0) := by
  pointwise [klg]

open Classical in
theorem kmask_apply (l : FVec Ideal S2048x1 .f32) (i : Fin 2048) :
    kmask l (ix2 i 0) = if Sel (fun j => l (ix2 j 0)) i then 1 else 0 := by
  pointwise [kmask]
  unfold Scalar.select
  refine if_congr ?_ rfl rfl
  unfold Sel
  show IntOp.ori _ _ = 1#1 ↔ _
  rw [IntOp.ori_eq_one, IntOp.cmpi_slt, WordArith.toInt_ofNat_small _ (by omega)]
  refine or_congr ?_ ?_
  · by_cases h : 0 < l (ix2 i 0)
    · simp [h]
    · simp [h]
  · show (i.val : Int) < 4 ↔ _
    omega

/-- The selection column of one group on its vectors. -/
def kgroup (x : Vec Ideal S2048x128 .f32) (u0 u1 u2 : Vec Ideal S1x128x64 .f32) (a : Vec Ideal S1x64 .f32)
    (v0 v1 v2 : Vec Ideal S1x64x32 .f32) (b : Vec Ideal S1x32 .f32) (w0 w1 w2 : Vec Ideal S1x32x16 .f32)
    (d : Vec Ideal S1x16 .f32) (p : Vec Ideal S1x16 .f32) (pb : Vec Ideal S1x1 .f32) : FVec Ideal S2048x1 .f32 :=
  kmask (klg (kl3 (kl2 (kl1 (shapeCast S2048x128 x shapeCasts_S2048x128_S2048x128) u0 u1 u2 a) v0 v1 v2 b) w0 w1 w2 d) p pb)

open Classical in
/-- The selection column of a group, from the entries of its operands. -/
theorem kgroup_apply {x : Vec Ideal S2048x128 .f32} {u0 u1 u2 : Vec Ideal S1x128x64 .f32} {a : Vec Ideal S1x64 .f32}
    {v0 v1 v2 : Vec Ideal S1x64x32 .f32} {b : Vec Ideal S1x32 .f32} {w0 w1 w2 : Vec Ideal S1x32x16 .f32}
    {d : Vec Ideal S1x16 .f32} {p : Vec Ideal S1x16 .f32} {pb : Vec Ideal S1x1 .f32}
    {U : Fin 64 → Fin 3 → Fin 128 → EReal} {A : Fin 64 → EReal} {V : Fin 32 → Fin 3 → Fin 64 → EReal} {B : Fin 32 → EReal}
    {W : Fin 16 → Fin 3 → Fin 32 → EReal} {D : Fin 16 → EReal} {P : Fin 16 → EReal} {Q : EReal}
    {X : Fin 2048 → Fin 128 → EReal} (hx : ∀ i c, x (ix2 i c) = X i c)
    (hu0 : ∀ d c, u0 (ix3 0 c d) = U d 0 c) (hu1 : ∀ d c, u1 (ix3 0 c d) = U d 1 c) (hu2 : ∀ d c, u2 (ix3 0 c d) = U d 2 c)
    (ha : ∀ d, a (ix2 0 d) = A d)
    (hv0 : ∀ d c, v0 (ix3 0 c d) = V d 0 c) (hv1 : ∀ d c, v1 (ix3 0 c d) = V d 1 c) (hv2 : ∀ d c, v2 (ix3 0 c d) = V d 2 c)
    (hb : ∀ d, b (ix2 0 d) = B d)
    (hw0 : ∀ d c, w0 (ix3 0 c d) = W d 0 c) (hw1 : ∀ d c, w1 (ix3 0 c d) = W d 1 c) (hw2 : ∀ d c, w2 (ix3 0 c d) = W d 2 c)
    (hd : ∀ e, d (ix2 0 e) = D e) (hp : ∀ e, p (ix2 0 e) = P e) (hq : pb (ix2 0 0) = Q) (i : Fin 2048) :
    kgroup x u0 u1 u2 a v0 v1 v2 b w0 w1 w2 d p pb (ix2 i 0) = if Sel (logit U A V B W D P Q X) i then 1 else 0 := by
  unfold kgroup
  rw [kmask_apply]
  refine if_congr (iff_of_eq (congrFun (congrArg Sel (funext fun j => ?_)) i)) rfl rfl
  rw [klg_apply, hq]
  unfold logit
  refine congrArg (· + Q) (Finset.sum_congr rfl fun c _ => ?_)
  rw [hp, kl3_apply _ _ _ _ _ W D _ hw0 hw1 hw2 hd
    (kl2_apply _ _ _ _ _ V B _ hv0 hv1 hv2 hb (kl1_apply _ _ _ _ _ U A X hu0 hu1 hu2 ha fun i c => ?_))]
  rw [← hx]
  pointwise

variable (x0 : Vec Ideal S2048x512 .f32) (x1 : Vec Ideal S3x128x256 .f32) (x2 : Vec Ideal S3x64x128 .f32)
  (x3 : Vec Ideal S3x32x64 .f32) (x4 : Vec Ideal S4x16 .f32) (x5 : Vec Ideal S1x256 .f32) (x6 : Vec Ideal S1x128 .f32)
  (x7 : Vec Ideal S1x64 .f32) (x8 : Vec Ideal S1x4 .f32) (x9 : Vec Ideal S4x2048x128 .bf16)

/-- The selection column of group 0. -/
theorem group0 : k1_pay11 (F := Ideal) (k1_pay43 x0 x1 x2 x3 x4 x5 x6 x7 x8 x9) (k1_pay44 x0 x1 x2 x3 x4 x5 x6 x7 x8 x9) (k1_pay45 x0 x1 x2 x3 x4 x5 x6 x7 x8 x9) (View.ld x8 r1_14)
    = kgroup (View.ld x0 r1_0) (View.ld x1 r1_1) (View.ld x1 r1_2) (View.ld x1 r1_3) (View.ld x5 r1_4) (View.ld x2 r1_5) (View.ld x2 r1_6) (View.ld x2 r1_7) (View.ld x6 r1_8) (View.ld x3 r1_9) (View.ld x3 r1_10) (View.ld x3 r1_11) (View.ld x7 r1_12) (View.ld x4 r1_13) (View.ld x8 r1_14) := rfl

/-- The selection column of group 1. -/
theorem group1 : k1_pay50 (F := Ideal) x0 x1 x2 x3 x4 x5 x6 x7 x8 x9
    = kgroup (View.ld x0 r1_16) (View.ld x1 r1_17) (View.ld x1 r1_18) (View.ld x1 r1_19) (View.ld x5 r1_20) (View.ld x2 r1_21) (View.ld x2 r1_22) (View.ld x2 r1_23) (View.ld x6 r1_24) (View.ld x3 r1_25) (View.ld x3 r1_26) (View.ld x3 r1_27) (View.ld x7 r1_28) (View.ld x4 r1_29) (View.ld x8 r1_30) := rfl

/-- The selection column of group 2. -/
theorem group2 : k1_pay31 (F := Ideal) (k1_pay43 x0 x1 x2 x3 x4 x5 x6 x7 x8 x9) (k1_pay55 x0 x1 x2 x3 x4 x5 x6 x7 x8 x9) (k1_pay56 x0 x1 x2 x3 x4 x5 x6 x7 x8 x9) (k1_pay57 x0 x1 x2 x3 x4 x5 x6 x7 x8 x9) (k1_pay54 x0 x1 x2 x3 x4 x5 x6 x7 x8 x9) (View.ld x7 r1_44) (View.ld x4 r1_45) (View.ld x8 r1_46)
    = kgroup (View.ld x0 r1_32) (View.ld x1 r1_33) (View.ld x1 r1_34) (View.ld x1 r1_35) (View.ld x5 r1_36) (View.ld x2 r1_37) (View.ld x2 r1_38) (View.ld x2 r1_39) (View.ld x6 r1_40) (View.ld x3 r1_41) (View.ld x3 r1_42) (View.ld x3 r1_43) (View.ld x7 r1_44) (View.ld x4 r1_45) (View.ld x8 r1_46) := rfl

/-- The selection column of group 3. -/
theorem group3 : k1_pay1 (F := Ideal) (k1_pay43 x0 x1 x2 x3 x4 x5 x6 x7 x8 x9) (k1_pay61 x0 x1 x2 x3 x4 x5 x6 x7 x8 x9) (k1_pay42 (View.ld x8 r1_62))
    = kgroup (View.ld x0 r1_48) (View.ld x1 r1_49) (View.ld x1 r1_50) (View.ld x1 r1_51) (View.ld x5 r1_52) (View.ld x2 r1_53) (View.ld x2 r1_54) (View.ld x2 r1_55) (View.ld x6 r1_56) (View.ld x3 r1_57) (View.ld x3 r1_58) (View.ld x3 r1_59) (View.ld x7 r1_60) (View.ld x4 r1_61) (View.ld x8 r1_62) := rfl

/-- The router's logit of group `g`, from the operands of the second call. -/
def logitK (g : Fin 4) (i : Fin 2048) : EReal :=
  logit (fun d t c => x1 (ix3 t c ⟨g.val * 64 + d.val, by omega⟩)) (fun d => x5 (ix2 0 ⟨g.val * 64 + d.val, by omega⟩))
    (fun d t c => x2 (ix3 t c ⟨g.val * 32 + d.val, by omega⟩)) (fun d => x6 (ix2 0 ⟨g.val * 32 + d.val, by omega⟩))
    (fun d t c => x3 (ix3 t c ⟨g.val * 16 + d.val, by omega⟩)) (fun d => x7 (ix2 0 ⟨g.val * 16 + d.val, by omega⟩))
    (fun c => x4 (ix2 g c)) (x8 (ix2 0 g)) (fun i c => x0 (ix2 i ⟨g.val * 128 + c.val, by omega⟩)) i

open Classical in
/-- The selection of group `g` at row `i`. -/
def selK (g : Fin 4) (i : Fin 2048) : EReal := if Sel (logitK x0 x1 x2 x3 x4 x5 x6 x7 x8 g) i then 1 else 0

theorem group0_apply (i : Fin 2048) : k1_pay11 (F := Ideal) (k1_pay43 x0 x1 x2 x3 x4 x5 x6 x7 x8 x9) (k1_pay44 x0 x1 x2 x3 x4 x5 x6 x7 x8 x9) (k1_pay45 x0 x1 x2 x3 x4 x5 x6 x7 x8 x9) (View.ld x8 r1_14) (ix2 i 0)
    = selK x0 x1 x2 x3 x4 x5 x6 x7 x8 0 i := by
  rw [group0]
  unfold selK logitK
  refine kgroup_apply ?_ ?_ ?_ ?_ ?_ ?_ ?_ ?_ ?_ ?_ ?_ ?_ ?_ ?_ ?_ i
  all_goals (intros; first | (pointwise; done) | (pointwise; blk_ext) | blk_ext)

theorem group1_apply (i : Fin 2048) : k1_pay50 (F := Ideal) x0 x1 x2 x3 x4 x5 x6 x7 x8 x9 (ix2 i 0)
    = selK x0 x1 x2 x3 x4 x5 x6 x7 x8 1 i := by
  rw [group1]
  unfold selK logitK
  refine kgroup_apply ?_ ?_ ?_ ?_ ?_ ?_ ?_ ?_ ?_ ?_ ?_ ?_ ?_ ?_ ?_ i
  all_goals (intros; first | (pointwise; done) | (pointwise; blk_ext) | blk_ext)

theorem group2_apply (i : Fin 2048) : k1_pay31 (F := Ideal) (k1_pay43 x0 x1 x2 x3 x4 x5 x6 x7 x8 x9) (k1_pay55 x0 x1 x2 x3 x4 x5 x6 x7 x8 x9) (k1_pay56 x0 x1 x2 x3 x4 x5 x6 x7 x8 x9) (k1_pay57 x0 x1 x2 x3 x4 x5 x6 x7 x8 x9) (k1_pay54 x0 x1 x2 x3 x4 x5 x6 x7 x8 x9) (View.ld x7 r1_44) (View.ld x4 r1_45) (View.ld x8 r1_46) (ix2 i 0)
    = selK x0 x1 x2 x3 x4 x5 x6 x7 x8 2 i := by
  rw [group2]
  unfold selK logitK
  refine kgroup_apply ?_ ?_ ?_ ?_ ?_ ?_ ?_ ?_ ?_ ?_ ?_ ?_ ?_ ?_ ?_ i
  all_goals (intros; first | (pointwise; done) | (pointwise; blk_ext) | blk_ext)

theorem group3_apply (i : Fin 2048) : k1_pay1 (F := Ideal) (k1_pay43 x0 x1 x2 x3 x4 x5 x6 x7 x8 x9) (k1_pay61 x0 x1 x2 x3 x4 x5 x6 x7 x8 x9) (k1_pay42 (View.ld x8 r1_62)) (ix2 i 0)
    = selK x0 x1 x2 x3 x4 x5 x6 x7 x8 3 i := by
  rw [group3]
  unfold selK logitK
  refine kgroup_apply ?_ ?_ ?_ ?_ ?_ ?_ ?_ ?_ ?_ ?_ ?_ ?_ ?_ ?_ ?_ i
  all_goals (intros; first | (pointwise; done) | (pointwise; blk_ext) | blk_ext)

/-- The four columns of the selection array are the four groups' columns. -/
theorem pay3_apply (v0 : IVec S2048x1 32) (a b d e : FVec Ideal S2048x1 .f32) (f : Ideal .f32) (i : Fin 2048) :
    k1_pay3 v0 a b d e f (ix2 i 0) = a (ix2 i 0) ∧ k1_pay3 v0 a b d e f (ix2 i 1) = b (ix2 i 0)
      ∧ k1_pay3 v0 a b d e f (ix2 i 2) = d (ix2 i 0) ∧ k1_pay3 v0 a b d e f (ix2 i 3) = k1_pay1 v0 e f (ix2 i 0) := by
  refine ⟨?_, ?_, ?_, ?_⟩ <;> pointwise [k1_pay3]

/-- The selection array. -/
theorem out10_apply (i : Fin 2048) (g : Fin 4) :
    out1_10 (F := Ideal) x0 x1 x2 x3 x4 x5 x6 x7 x8 x9 (ix2 i g) = selK x0 x1 x2 x3 x4 x5 x6 x7 x8 g i := by
  unfold out1_10
  canon_tiles x h
  have hx : x = ix2 i g := by
    funext a
    fin_cases a
    · exact Fin.ext h0.symm
    · exact Fin.ext h1.symm
  rw [hx]
  clear hx h0 h1
  have e := pay3_apply (k1_pay43 x0 x1 x2 x3 x4 x5 x6 x7 x8 x9)
    (k1_pay11 (F := Ideal) (k1_pay43 x0 x1 x2 x3 x4 x5 x6 x7 x8 x9) (k1_pay44 x0 x1 x2 x3 x4 x5 x6 x7 x8 x9)
      (k1_pay45 x0 x1 x2 x3 x4 x5 x6 x7 x8 x9) (View.ld x8 r1_14))
    (k1_pay50 x0 x1 x2 x3 x4 x5 x6 x7 x8 x9)
    (k1_pay31 (F := Ideal) (k1_pay43 x0 x1 x2 x3 x4 x5 x6 x7 x8 x9) (k1_pay55 x0 x1 x2 x3 x4 x5 x6 x7 x8 x9)
      (k1_pay56 x0 x1 x2 x3 x4 x5 x6 x7 x8 x9) (k1_pay57 x0 x1 x2 x3 x4 x5 x6 x7 x8 x9)
      (k1_pay54 x0 x1 x2 x3 x4 x5 x6 x7 x8 x9) (View.ld x7 r1_44) (View.ld x4 r1_45) (View.ld x8 r1_46))
    (k1_pay61 x0 x1 x2 x3 x4 x5 x6 x7 x8 x9) (k1_pay42 (View.ld x8 r1_62)) i
  rw [group0_apply, group1_apply, group2_apply, group3_apply] at e
  obtain ⟨e0, e1, e2, e3⟩ := e
  match g with
  | 0 => exact e0
  | 1 => exact e1
  | 2 => exact e2
  | 3 => exact e3

/-- The values kept by the selection, by head. -/
theorem out11_apply (g : Fin 4) (i : Fin 2048) (c : Fin 128) :
    out1_11 (F := Ideal) x0 x1 x2 x3 x4 x5 x6 x7 x8 x9 (ix3 g i c)
      = x9 (ix3 g i c) * selK x0 x1 x2 x3 x4 x5 x6 x7 x8 g i := by
  unfold out1_11
  canon_tiles x h
  all_goals
    have hx : x = ix3 0 i c := by
      funext a
      fin_cases a
      · exact Fin.ext (show (x 0).val = 0 by omega)
      · exact Fin.ext h1.symm
      · exact Fin.ext h2.symm
    rw [hx]
    have hz : (x 0).val = 0 := by omega
    rw [hz] at h0
    clear h1 h2 hx hz x0_lt x1_lt x2_lt
  case piece0 =>
    obtain rfl : g = 3 := Fin.ext h0
    pointwise [k1_pay2]
    rw [group3_apply]
  case piece1 =>
    obtain rfl : g = 2 := Fin.ext h0
    pointwise [k1_pay32]
    rw [group2_apply]
  case piece2 =>
    obtain rfl : g = 1 := Fin.ext h0
    pointwise [k1_pay22]
    rw [group1_apply]
  case piece3 =>
    obtain rfl : g = 0 := Fin.ext h0
    pointwise [k1_pay12]
    rw [group0_apply]

end Cert.KernelIdeal.Val
end
-- ==== Proof.Val.KD.lean ====
/-
The arrays the second kernel call leaves, entry by entry.
-/
module
public import proofs.«01_k».proof.Proof.Val.KC
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

variable (V : (c : Dev nD) → (b : Ref sig .tc) → Buf (Elt Ideal) ((c : Thread nD τ).loc b)) (c : Dev nD)

theorem idx1 : ∀ t : Fin cfg1.N, win1_0.index t = ![0, 0] ∧ win1_1.index t = ![0, 0, 0] ∧ win1_2.index t = ![0, 0, 0] ∧ win1_3.index t = ![0, 0, 0] ∧ win1_4.index t = ![0, 0] ∧ win1_5.index t = ![0, 0] ∧ win1_6.index t = ![0, 0] ∧ win1_7.index t = ![0, 0] ∧ win1_8.index t = ![0, 0] ∧ win1_9.index t = ![0, 0, 0] ∧ win1_10.index t = ![0, 0] ∧ win1_11.index t = ![0, 0, 0] := (by decide +kernel : ∀ t : Fin grid1.N, _)

/-- The call's one grid point. -/
def p1 : Fin cfg1.N := ⟨0, by decide +kernel⟩

theorem blk1_0 : iblk1 V c 0 p1 = V c main_v32_3 := by
  funext j
  blk_point [iblk1, idx1 p1]
theorem blk1_1 : iblk1 V c 1 p1 = V c main_v34 := by
  funext j
  blk_point [iblk1, idx1 p1]
theorem blk1_2 : iblk1 V c 2 p1 = V c main_v36 := by
  funext j
  blk_point [iblk1, idx1 p1]
theorem blk1_3 : iblk1 V c 3 p1 = V c main_v38 := by
  funext j
  blk_point [iblk1, idx1 p1]
theorem blk1_4 : iblk1 V c 4 p1 = V c main_v39 := by
  funext j
  blk_point [iblk1, idx1 p1]
theorem blk1_5 : iblk1 V c 5 p1 = V c main_v40 := by
  funext j
  blk_point [iblk1, idx1 p1]
theorem blk1_6 : iblk1 V c 6 p1 = V c main_v41 := by
  funext j
  blk_point [iblk1, idx1 p1]
theorem blk1_7 : iblk1 V c 7 p1 = V c main_v42 := by
  funext j
  blk_point [iblk1, idx1 p1]
theorem blk1_8 : iblk1 V c 8 p1 = V c main_v43 := by
  funext j
  blk_point [iblk1, idx1 p1]
theorem blk1_9 : iblk1 V c 9 p1 = V c main_v32_2 := by
  funext j
  blk_point [iblk1, idx1 p1]

/-- The router's selection of group `g` at row `i`, from the arrays the call is given. -/
def selV (g : Fin 4) (i : Fin 2048) : EReal :=
  selK (V c main_v32_3) (V c main_v34) (V c main_v36) (V c main_v38) (V c main_v39) (V c main_v40) (V c main_v41) (V c main_v42) (V c main_v43) g i

theorem ix2_of {A B : ℕ} (x : Shape.Idx ⟨2, ![A, B]⟩) : x = ix2 ⟨(x 0).val, (x 0).isLt⟩ ⟨(x 1).val, (x 1).isLt⟩ := by
  funext a
  fin_cases a <;> rfl
theorem ix3_of {A B C : ℕ} (x : Shape.Idx ⟨3, ![A, B, C]⟩) :
    x = ix3 ⟨(x 0).val, (x 0).isLt⟩ ⟨(x 1).val, (x 1).isLt⟩ ⟨(x 2).val, (x 2).isLt⟩ := by
  funext a
  fin_cases a <;> rfl

/-- The value array of the call's input. -/
def vnV (g : Fin 4) (i : Fin 2048) (e : Fin 128) : EReal := V c main_v32_2 (ix3 g i e)

/-- The selection array. -/
theorem sel_arr : (dat1 V c).arrAt 10 cfg1.N = fun j : S2048x4.Idx => selV V c ⟨(j 1).val, (j 1).isLt⟩ ⟨(j 0).val, (j 0).isLt⟩ := by
  refine (dat1 V c).arrAt_eq_of_after_last 10 p1 (by decide +kernel) _ fun j => ?_
  blk_simp [idx1 p1]
  rw [after1_10, blk1_0, blk1_1, blk1_2, blk1_3, blk1_4, blk1_5, blk1_6, blk1_7, blk1_8, blk1_9]
  exact (congrArg _ (ix2_of (A := 2048) (B := 4) j)).trans (out10_apply _ _ _ _ _ _ _ _ _ _ _ _)

/-- The value array times the selection. -/
theorem vf_arr : (dat1 V c).arrAt 11 cfg1.N = fun j : S4x2048x128.Idx =>
    vnV V c ⟨(j 0).val, (j 0).isLt⟩ ⟨(j 1).val, (j 1).isLt⟩ ⟨(j 2).val, (j 2).isLt⟩ * selV V c ⟨(j 0).val, (j 0).isLt⟩ ⟨(j 1).val, (j 1).isLt⟩ := by
  refine (dat1 V c).arrAt_eq_of_after_last 11 p1 (by decide +kernel) _ fun j => ?_
  blk_simp [idx1 p1]
  rw [after1_11, blk1_0, blk1_1, blk1_2, blk1_3, blk1_4, blk1_5, blk1_6, blk1_7, blk1_8, blk1_9]
  exact (congrArg _ (ix3_of (A := 4) (B := 2048) (C := 128) j)).trans (out11_apply _ _ _ _ _ _ _ _ _ _ _ _ _)
end Cert.KernelIdeal.Val
end
-- ==== Proof.Val.KG.lean ====
/-
The array the third kernel call leaves, entry by entry.
-/
module
public import proofs.«01_k».proof.Proof.Val.KF
public import proofs.«01_k».proof.Proof.Val.KD
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

variable (V : (c : Dev nD) → (b : Ref sig .tc) → Buf (Elt Ideal) ((c : Thread nD τ).loc b)) (c : Dev nD)

theorem idx2 : ∀ t : Fin cfg2.N, win2_0.index t = ![t.val % 4, t.val / 4, 0] ∧ win2_1.index t = ![0, 0, 0] ∧ win2_2.index t = ![0, 0, 0]
    ∧ win2_3.index t = ![0, 0, 0] ∧ win2_4.index t = ![0, 0, 0] ∧ win2_5.index t = ![0, 0, 0] ∧ win2_6.index t = ![t.val / 4, 0] :=
  (by decide +kernel : ∀ t : Fin grid2.N, _)
theorem lt2 (t : Fin cfg2.N) : t.val < 32 := lt_of_lt_of_eq t.isLt N_2
theorem co0 (t : Fin cfg2.N) : (grid2.coords t 0).val = t.val / 4 :=
  (by decide +kernel : ∀ t : Fin grid2.N, (grid2.coords t 0).val = t.val / 4) t
theorem co1 (t : Fin cfg2.N) : (grid2.coords t 1).val = t.val % 4 :=
  (by decide +kernel : ∀ t : Fin grid2.N, (grid2.coords t 1).val = t.val % 4) t

/-- The query array at head `h` and row `i`. -/
def qA (h : Fin 16) (i : Fin 2048) (d : Fin 64) : EReal :=
  V c main_v32_0 (ix3 (⟨h.val / 4, by omega⟩ : Fin 4) (⟨i.val / 256 * 1024 + h.val % 4 * 256 + i.val % 256, by omega⟩ : Fin 8192) d)

/-- The key, value, selection, masked value and weight arrays the call is given. -/
def kA (g : Fin 4) (j : Fin 2048) (d : Fin 64) : EReal := V c main_v32_1 (ix3 g j d)
def vA (g : Fin 4) (j : Fin 2048) (e : Fin 128) : EReal := V c main_v32_2 (ix3 g j e)
def sA (g : Fin 4) (j : Fin 2048) : EReal := V c main_v46 (ix3 g 0 j)
def fA (g : Fin 4) (j : Fin 2048) (e : Fin 128) : EReal := V c main_v44_1 (ix3 g j e)
def wA (g : Fin 4) (x : Fin 256) (n : Fin 1024) : EReal := V c main_v47 (ix3 g x n)

open Classical in
/-- One key's term of the sums of query row `i` of head `h`. -/
def termA (h : Fin 16) (i : Fin 2048) (e : Fin 128) (j : Fin 2048) : EReal :=
  (if j.val ≤ i.val ∧ (i.val < j.val + 512 ∨ 0 < sA V c ⟨h.val / 4, by omega⟩ j) then
    Ideal.exp (∑ d : Fin 64, qA V c h i d * kA V c ⟨h.val / 4, by omega⟩ j d) else 0)
    * vA V c ⟨h.val / 4, by omega⟩ j e

/-- What group `g` adds to the result's row `i`. -/
def partA (g : Fin 4) (i : Fin 2048) (n : Fin 1024) : EReal :=
  ∑ x : Fin 256, Ideal.div (∑ j, termA V c ⟨g.val * 4 + x.val / 64, by omega⟩ i ⟨x.val % 64, by omega⟩ j)
    (∑ j, termA V c ⟨g.val * 4 + x.val / 64, by omega⟩ i 64 j) * wA V c g x n

/-- The selection the call is given is zero or one, and the first loop's values are the others
times it. -/
def Chosen : Prop := (∀ (g : Fin 4) (j : Fin 2048), sA V c g j = 0 ∨ sA V c g j = 1)
  ∧ ∀ (g : Fin 4) (j : Fin 2048) (e : Fin 128), fA V c g j e = vA V c g j e * sA V c g j

theorem blk2_1 (t : Fin cfg2.N) : iblk2 V c 1 t = V c main_v32_1 := by
  funext j
  blk_point [iblk2, idx2 t]
theorem blk2_2 (t : Fin cfg2.N) : iblk2 V c 2 t = V c main_v44_1 := by
  funext j
  blk_point [iblk2, idx2 t]
theorem blk2_3 (t : Fin cfg2.N) : iblk2 V c 3 t = V c main_v32_2 := by
  funext j
  blk_point [iblk2, idx2 t]
theorem blk2_4 (t : Fin cfg2.N) : iblk2 V c 4 t = V c main_v46 := by
  funext j
  blk_point [iblk2, idx2 t]
theorem blk2_5 (t : Fin cfg2.N) : iblk2 V c 5 t = V c main_v47 := by
  funext j
  blk_point [iblk2, idx2 t]

/-- A row of the query block of a point. -/
theorem blk2_0 (t : Fin cfg2.N) (r : Fin 1024) (d : Fin 64) (h : Fin 16) (i : Fin 2048) (hh : h.val = t.val % 4 * 4 + r.val / 256)
    (hi : i.val = t.val / 4 * 256 + r.val % 256) : (iblk2 V c 0 t : Vec Ideal S1x1024x64 .bf16) (ix3 0 r d) = qA V c h i d := by
  have ht := lt2 t
  unfold qA
  blk_point [iblk2, idx2 t]

/-- A point's block is its group's part. -/
theorem group_part (t : Fin cfg2.N) (r : Fin 256) (n : Fin 1024) :
    groupOut (fun r e => ∑ j : Fin 2048, nearT (iblk2 V c 0 t) (iblk2 V c 1 t) (iblk2 V c 3 t) (iblk2 V c 4 t) (grid2.coords t 0).val (grid2.coords t 1) r e j)
      (iblk2 V c 5 t) (grid2.coords t 1) r n
    = partA V c ⟨t.val % 4, Nat.mod_lt _ (by decide)⟩ ⟨t.val / 4 * 256 + r.val, by have := lt2 t; omega⟩ n := by
  have ht := lt2 t
  have hg : (grid2.coords t 1 : Fin 4) = ⟨t.val % 4, Nat.mod_lt _ (by decide)⟩ := Fin.ext (co1 t)
  have key : ∀ (x : Fin 256) (e : Fin 128) (j : Fin 2048),
      nearT (iblk2 V c 0 t) (iblk2 V c 1 t) (iblk2 V c 3 t) (iblk2 V c 4 t) (grid2.coords t 0).val (grid2.coords t 1) ⟨x.val / 64 * 256 + r.val, by omega⟩ e j
        = termA V c ⟨t.val % 4 * 4 + x.val / 64, by omega⟩ ⟨t.val / 4 * 256 + r.val, by omega⟩ e j := by
    intro x e j
    have e1 : t.val / 4 * 256 + (x.val / 64 * 256 + r.val) % 256 = t.val / 4 * 256 + r.val := by omega
    have e2 : (⟨(t.val % 4 * 4 + x.val / 64) / 4, by omega⟩ : Fin 4) = ⟨t.val % 4, by omega⟩ := Fin.ext (by dsimp only; omega)
    unfold nearT termA kA vA sA
    rw [blk2_1, blk2_3, blk2_4, hg, co0 t]
    dsimp only
    rw [e1, e2]
    simp only [blk2_0 V c t ⟨x.val / 64 * 256 + r.val, by omega⟩ _ ⟨t.val % 4 * 4 + x.val / 64, by omega⟩ ⟨t.val / 4 * 256 + r.val, by omega⟩
      (by dsimp only; omega) (by dsimp only; omega)]
    rfl
  unfold groupOut partA
  refine Finset.sum_congr rfl fun x _ => ?_
  simp only [key]
  rw [blk2_5, hg]
  rfl

/-- What point `t` adds to its block, by the block's entries. -/
def addA (t : Fin cfg2.N) (y : S256x1024.Idx) : EReal :=
  partA V c ⟨t.val % 4, Nat.mod_lt _ (by decide)⟩
    ⟨t.val / 4 * 256 + (y 0).val, by have := lt2 t; have : (y 0).val < 256 := (y 0).isLt; omega⟩ ⟨(y 1).val, (y 1).isLt⟩

/-- What the block holds at a point, by its entries. -/
def outsE (n : ℕ) (h : n < cfg2.N) (y : S256x1024.Idx) : EReal := outsAt2 V c n h y

theorem first_step (hC : Chosen V c) (t : Fin cfg2.N) (h : t.val % 4 = 0) (y : S256x1024.Idx) :
    outsE V c t.val t.isLt y = 0 + addA V c t y := by
  have hj : y = ix2 (⟨(y 0).val, (y 0).isLt⟩ : Fin 256) (⟨(y 1).val, (y 1).isLt⟩ : Fin 1024) := ix2_of (A := 256) (B := 1024) y
  unfold outsE addA
  rw [outsAt2_A V c t h (by omega), zero_add]
  refine (congrArg _ hj).trans ((outA_apply (hs := fun j => ?_) (hv := fun j e => ?_) ..).trans (group_part V c t _ _))
  · rw [blk2_4]; exact hC.1 _ j
  · rw [blk2_2, blk2_3, blk2_4]; exact hC.2 _ j e

theorem next_step (hC : Chosen V c) (t : Fin cfg2.N) (h : ¬t.val % 4 = 0) (y : S256x1024.Idx) :
    outsE V c t.val t.isLt y = outsE V c (t.val - 1) (Nat.lt_of_le_of_lt (Nat.sub_le _ _) t.isLt) y + addA V c t y := by
  have hj : y = ix2 (⟨(y 0).val, (y 0).isLt⟩ : Fin 256) (⟨(y 1).val, (y 1).isLt⟩ : Fin 1024) := ix2_of (A := 256) (B := 1024) y
  unfold outsE addA
  rw [outsAt2_B V c t h (by omega)]
  refine (congrArg _ hj).trans ((outB_apply (hs := fun j => ?_) (hv := fun j e => ?_) ..).trans
    (congrArg₂ (fun a b : EReal => a + b) (congrArg _ hj.symm) (group_part V c t _ _)))
  · rw [blk2_4]; exact hC.1 _ j
  · rw [blk2_2, blk2_3, blk2_4]; exact hC.2 _ j e

/-- The result array. -/
theorem out_arr (hC : Chosen V c) : (dat2 V c).arrAt 6 cfg2.N = fun j : S2048x1024.Idx =>
    ∑ g : Fin 4, partA V c g ⟨(j 0).val, (j 0).isLt⟩ ⟨(j 1).val, (j 1).isLt⟩ := by
  refine (dat2 V c).arrAt_eq_of_covers 6 _ (by decide +kernel) fun t hf y => ?_
  blk_simp [idx2 t]
  rw [after2_6]
  refine (Pipeline.eq_sum_fin_of_reset_step_apply_of_flush (M := EReal) (outsE V c) 4 (fun _ => 0) (addA V c)
    (first_step V c hC) (next_step V c hC) t ((flush2_6 t).mp hf) y).trans ?_
  rw [zero_add]
  refine Finset.sum_congr rfl fun s _ => ?_
  have hs := s.isLt
  have ht := lt2 t
  exact congrArg₂ (fun g i => partA V c g i ⟨(y 1).val, (y 1).isLt⟩) (Fin.ext (by dsimp only; omega)) (Fin.ext (by dsimp only; omega))
end Cert.KernelIdeal.Val
end
-- ==== Proof.Val.KH.lean ====
/-
What the host operations between the kernel calls prepare, entry by entry.
-/
module
public import proofs.«01_k».proof.Proof.KI.Run
public import proofs.«01_k».proof.Proof.Val.Spec
public import Idealize.ShloMosaic.Lib.Pipeline.ValueKit
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

variable (U : Valuation τ sig (Elt Ideal))

/-- The rows of the input, its leading axis dropped. -/
theorem host0_v0 (i : Fin 2048) (x : Fin 1024) :
    (StableHlo.after hostOps0 U (Proc.devRef .tc main_v0) : FVec Ideal S2048x1024 .f32) (ix2 i x)
      = (U (Proc.devRef .tc main_arg0) : FVec Ideal S1x2048x1024 .f32) (ix3 0 i x) := by
  have e : (StableHlo.after hostOps0 U (Proc.devRef .tc main_v0) : FVec Ideal S2048x1024 .f32)
      = shapeCast S2048x1024 (U (Proc.devRef .tc main_arg0) : FVec Ideal S1x2048x1024 .f32) shapeCasts_S1x2048x1024_S2048x1024 := by
    after_results
    try rfl
  rw [e]
  pointwise

/-- A matrix times an eighth. -/
def eighth (x1 : FVec Ideal S1024x1024 .f32) : FVec Ideal S1024x1024 .f32 :=
  mulf x1 (broadcastInDim S1024x1024 ![] bcast_S_S1024x1024 (constant S_ FTy.f32 1040187392#32))

/-- The query weights, an eighth of them. -/
theorem host0_v2 (x1 : FVec Ideal S1024x1024 .f32) (hx : U (Proc.devRef .tc main_arg1) = x1) (x n : Fin 1024) :
    (StableHlo.after hostOps0 U (Proc.devRef .tc main_v2) : FVec Ideal S1024x1024 .f32) (ix2 x n)
      = x1 (ix2 x n) * ((1 / 8 : ℝ) : EReal) := by
  have e : (StableHlo.after hostOps0 U (Proc.devRef .tc main_v2) : FVec Ideal S1024x1024 .f32)
      = eighth x1 := by
    subst hx
    unfold eighth
    after_results
    try rfl
  rw [e, ← bits_eighth]
  pointwise [eighth]

/-- The angle table. -/
def angleVec : FVec Ideal S2048x32 .f32 :=
  mulf
    (broadcastInDim S2048x32 ![0, 1] bcast_S2048x1_S2048x32_0_1
      (broadcastInDim S2048x1 ![0] bcast_S2048_S2048x1_0 (sitofp FTy.f32 (iotaInDim S2048 32 0))))
    (broadcastInDim S2048x32 ![0, 1] bcast_S1x32_S2048x32_0_1
      (broadcastInDim S1x32 ![1] bcast_S32_S1x32_1
        (Host.divf (broadcastInDim S32 ![] bcast_S_S32 (constant S_ FTy.f32 1065353216#32))
          (Host.powf (broadcastInDim S32 ![] bcast_S_S32 (constant S_ FTy.f32 1176256512#32))
            (Host.divf
              (addf (broadcastInDim S32 ![] bcast_S_S32 (constant S_ FTy.f32 0#32))
                (mulf (broadcastInDim S32 ![] bcast_S_S32 (constant S_ FTy.f32 1073741824#32))
                  (sitofp FTy.f32 (iotaInDim S32 32 0))))
              (broadcastInDim S32 ![] bcast_S_S32 (constant S_ FTy.f32 1115684864#32)))))))

theorem angleVec_apply (i : Fin 2048) (d : Fin 32) : angleVec (ix2 i d) = angle i d := by
  pointwise [angleVec, angle]

/-- A table of 32 columns repeated to 128. -/
def tile4 (x : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, x⟩, ⟨S2048x32, x⟩] concatenates_S2048x32_S2048x32_S2048x64_d1)
      shapeCasts_S2048x64_S1x2048x1x64)) shapeCasts_S1x2048x2x64_S2048x128

theorem tile4_apply (x : FVec Ideal S2048x32 .f32) (i : Fin 2048) (d : Fin 128) :
    tile4 x (ix2 i d) = if h : d.val % 64 < 32 then x (ix2 i ⟨d.val % 64, h⟩) else x (ix2 i ⟨d.val % 64 - 32, by omega⟩) := by
  pointwise [tile4]

/-- The cosines. -/
theorem host0_v28 (i : Fin 2048) (d : Fin 128) :
    (StableHlo.after hostOps0 U (Proc.devRef .tc main_v28) : FVec Ideal S2048x128 .f32) (ix2 i d)
      = cosT i ⟨d.val % 64, by omega⟩ := by
  have e : (StableHlo.after hostOps0 U (Proc.devRef .tc main_v28) : FVec Ideal S2048x128 .f32)
      = tile4 (Host.cos angleVec) := by
    after_results
    try rfl
  rw [e, tile4_apply]
  unfold cosT
  simp only [← angleVec_apply]
  rfl

/-- The sines. -/
theorem host0_v31 (i : Fin 2048) (d : Fin 128) :
    (StableHlo.after hostOps0 U (Proc.devRef .tc main_v31) : FVec Ideal S2048x128 .f32) (ix2 i d)
      = sinT i ⟨d.val % 64, by omega⟩ := by
  have e : (StableHlo.after hostOps0 U (Proc.devRef .tc main_v31) : FVec Ideal S2048x128 .f32)
      = tile4 (Host.sin angleVec) := by
    after_results
    try rfl
  rw [e, tile4_apply]
  unfold sinT
  simp only [← angleVec_apply]
  rfl

/-- The weights of a layer, tap first. -/
theorem host1_v34 (t : Fin 3) (k : Fin 128) (d : Fin 256) :
    (StableHlo.after hostOps1 U (Proc.devRef .tc main_v34) : FVec Ideal S3x128x256 .f32) (ix3 t k d)
      = (U (Proc.devRef .tc main_arg5) : FVec Ideal S256x128x1x3 .f32) (ix4 d k 0 t) := by
  have e : (StableHlo.after hostOps1 U (Proc.devRef .tc main_v34) : FVec Ideal S3x128x256 .f32)
      = transpose S3x128x256 [2, 1, 0] (shapeCast S256x128x3 (U (Proc.devRef .tc main_arg5) : FVec Ideal S256x128x1x3 .f32)
          shapeCasts_S256x128x1x3_S256x128x3) transposes_S256x128x3_S3x128x256_2_1_0 := by
    after_results
    try rfl
  rw [e]
  pointwise

/-- The weights of a layer, tap first. -/
theorem host1_v36 (t : Fin 3) (k : Fin 64) (d : Fin 128) :
    (StableHlo.after hostOps1 U (Proc.devRef .tc main_v36) : FVec Ideal S3x64x128 .f32) (ix3 t k d)
      = (U (Proc.devRef .tc main_arg7) : FVec Ideal S128x64x1x3 .f32) (ix4 d k 0 t) := by
  have e : (StableHlo.after hostOps1 U (Proc.devRef .tc main_v36) : FVec Ideal S3x64x128 .f32)
      = transpose S3x64x128 [2, 1, 0] (shapeCast S128x64x3 (U (Proc.devRef .tc main_arg7) : FVec Ideal S128x64x1x3 .f32)
          shapeCasts_S128x64x1x3_S128x64x3) transposes_S128x64x3_S3x64x128_2_1_0 := by
    after_results
    try rfl
  rw [e]
  pointwise

/-- The weights of a layer, tap first. -/
theorem host1_v38 (t : Fin 3) (k : Fin 32) (d : Fin 64) :
    (StableHlo.after hostOps1 U (Proc.devRef .tc main_v38) : FVec Ideal S3x32x64 .f32) (ix3 t k d)
      = (U (Proc.devRef .tc main_arg9) : FVec Ideal S64x32x1x3 .f32) (ix4 d k 0 t) := by
  have e : (StableHlo.after hostOps1 U (Proc.devRef .tc main_v38) : FVec Ideal S3x32x64 .f32)
      = transpose S3x32x64 [2, 1, 0] (shapeCast S64x32x3 (U (Proc.devRef .tc main_arg9) : FVec Ideal S64x32x1x3 .f32)
          shapeCasts_S64x32x1x3_S64x32x3) transposes_S64x32x3_S3x32x64_2_1_0 := by
    after_results
    try rfl
  rw [e]
  pointwise

/-- The projection's weights. -/
theorem host1_v39 (g : Fin 4) (k : Fin 16) :
    (StableHlo.after hostOps1 U (Proc.devRef .tc main_v39) : FVec Ideal S4x16 .f32) (ix2 g k)
      = (U (Proc.devRef .tc main_arg11) : FVec Ideal S4x16x1x1 .f32) (ix4 g k 0 0) := by
  have e : (StableHlo.after hostOps1 U (Proc.devRef .tc main_v39) : FVec Ideal S4x16 .f32)
      = shapeCast S4x16 (U (Proc.devRef .tc main_arg11) : FVec Ideal S4x16x1x1 .f32) shapeCasts_S4x16x1x1_S4x16 := by
    after_results
    try rfl
  rw [e]
  pointwise

/-- A bias as a row. -/
theorem host1_v40 (d : Fin 256) :
    (StableHlo.after hostOps1 U (Proc.devRef .tc main_v40) : FVec Ideal S1x256 .f32) (ix2 0 d)
      = (U (Proc.devRef .tc main_arg6) : FVec Ideal S256 .f32) (ix1 d) := by
  have e : (StableHlo.after hostOps1 U (Proc.devRef .tc main_v40) : FVec Ideal S1x256 .f32)
      = broadcastInDim S1x256 ![1] bcast_S256_S1x256_1 (U (Proc.devRef .tc main_arg6) : FVec Ideal S256 .f32) := by
    after_results
    try rfl
  rw [e]
  pointwise

/-- A bias as a row. -/
theorem host1_v41 (d : Fin 128) :
    (StableHlo.after hostOps1 U (Proc.devRef .tc main_v41) : FVec Ideal S1x128 .f32) (ix2 0 d)
      = (U (Proc.devRef .tc main_arg8) : FVec Ideal S128 .f32) (ix1 d) := by
  have e : (StableHlo.after hostOps1 U (Proc.devRef .tc main_v41) : FVec Ideal S1x128 .f32)
      = broadcastInDim S1x128 ![1] bcast_S128_S1x128_1 (U (Proc.devRef .tc main_arg8) : FVec Ideal S128 .f32) := by
    after_results
    try rfl
  rw [e]
  pointwise

/-- A bias as a row. -/
theorem host1_v42 (d : Fin 64) :
    (StableHlo.after hostOps1 U (Proc.devRef .tc main_v42) : FVec Ideal S1x64 .f32) (ix2 0 d)
      = (U (Proc.devRef .tc main_arg10) : FVec Ideal S64 .f32) (ix1 d) := by
  have e : (StableHlo.after hostOps1 U (Proc.devRef .tc main_v42) : FVec Ideal S1x64 .f32)
      = broadcastInDim S1x64 ![1] bcast_S64_S1x64_1 (U (Proc.devRef .tc main_arg10) : FVec Ideal S64 .f32) := by
    after_results
    try rfl
  rw [e]
  pointwise

/-- A bias as a row. -/
theorem host1_v43 (d : Fin 4) :
    (StableHlo.after hostOps1 U (Proc.devRef .tc main_v43) : FVec Ideal S1x4 .f32) (ix2 0 d)
      = (U (Proc.devRef .tc main_arg12) : FVec Ideal S4 .f32) (ix1 d) := by
  have e : (StableHlo.after hostOps1 U (Proc.devRef .tc main_v43) : FVec Ideal S1x4 .f32)
      = broadcastInDim S1x4 ![1] bcast_S4_S1x4_1 (U (Proc.devRef .tc main_arg12) : FVec Ideal S4 .f32) := by
    after_results
    try rfl
  rw [e]
  pointwise

/-- The selection, group first. -/
theorem host2_v46 (g : Fin 4) (j : Fin 2048) :
    (StableHlo.after hostOps2 U (Proc.devRef .tc main_v46) : FVec Ideal S4x1x2048 .f32) (ix3 g 0 j)
      = (U (Proc.devRef .tc main_v44_0) : FVec Ideal S2048x4 .f32) (ix2 j g) := by
  have e : (StableHlo.after hostOps2 U (Proc.devRef .tc main_v46) : FVec Ideal S4x1x2048 .f32)
      = shapeCast S4x1x2048 (transpose S4x2048 [1, 0] (U (Proc.devRef .tc main_v44_0) : FVec Ideal S2048x4 .f32) transposes_S2048x4_S4x2048_1_0)
          shapeCasts_S4x2048_S4x1x2048 := by
    after_results
    try rfl
  rw [e]
  pointwise

/-- The output weights by group. -/
theorem host2_v47 (g : Fin 4) (x : Fin 256) (n : Fin 1024) :
    (StableHlo.after hostOps2 U (Proc.devRef .tc main_v47) : FVec Ideal S4x256x1024 .f32) (ix3 g x n)
      = (U (Proc.devRef .tc main_arg4) : FVec Ideal S1024x1024 .f32) (ix2 ⟨g.val * 256 + x.val, by omega⟩ n) := by
  have e : (StableHlo.after hostOps2 U (Proc.devRef .tc main_v47) : FVec Ideal S4x256x1024 .f32)
      = shapeCast S4x256x1024 (U (Proc.devRef .tc main_arg4) : FVec Ideal S1024x1024 .f32) shapeCasts_S1024x1024_S4x256x1024 := by
    after_results
    try rfl
  rw [e]
  pointwise
end Cert.KernelIdeal.Val
end
-- ==== Proof.Val.Model.lean ====
/-
The whole result in terms of the arguments' entries, once as the kernel forms it and
once as the reference does.
-/
module
public import proofs.«01_k».proof.Proof.Val.Spec
@[expose] public section
noncomputable section
namespace Cert.Spec
open Idealize.ShloMosaic

/-- The query of head `h` at position `i`. -/
def qS (A : Fin 2048 → Fin 1024 → EReal) (W : Fin 1024 → Fin 1024 → EReal) (h : Fin 16) (i : Fin 2048)
    (d : Fin 64) : EReal := rope (fun d => dot A W i (colQ h d)) i d

/-- The key of head `g` at position `i`. -/
def kS (A : Fin 2048 → Fin 1024 → EReal) (W : Fin 1024 → Fin 256 → EReal) (g : Fin 4) (i : Fin 2048)
    (d : Fin 64) : EReal := rope (fun d => dot A W i (colK g d)) i d

/-- The value of head `g` at position `i`. -/
def vS (A : Fin 2048 → Fin 1024 → EReal) (W : Fin 1024 → Fin 256 → EReal) (g : Fin 4) (i : Fin 2048)
    (d : Fin 64) : EReal := dot A W i (colK g d)

/-- The router's parameters: the weights and biases of three layers and of the projection. -/
structure Router where
  /-- Weights of the first layer. -/
  w1 : Fin 256 → Fin 3 → Fin 128 → EReal
  /-- Biases of the first layer. -/
  b1 : Fin 256 → EReal
  /-- Weights of the second layer. -/
  w2 : Fin 128 → Fin 3 → Fin 64 → EReal
  /-- Biases of the second layer. -/
  b2 : Fin 128 → EReal
  /-- Weights of the third layer. -/
  w3 : Fin 64 → Fin 3 → Fin 32 → EReal
  /-- Biases of the third layer. -/
  b3 : Fin 64 → EReal
  /-- Weights of the projection. -/
  p : Fin 4 → Fin 16 → EReal
  /-- Biases of the projection. -/
  pb : Fin 4 → EReal

/-- The logit of group `g` at position `i`, from the router's input of that group. -/
def Router.lg (R : Router) (x : Fin 4 → Fin 2048 → Fin 128 → EReal) (g : Fin 4) (i : Fin 2048) : EReal :=
  logit (fun d => R.w1 ⟨g.val * 64 + d.val, by omega⟩) (fun d => R.b1 ⟨g.val * 64 + d.val, by omega⟩)
    (fun d => R.w2 ⟨g.val * 32 + d.val, by omega⟩) (fun d => R.b2 ⟨g.val * 32 + d.val, by omega⟩)
    (fun d => R.w3 ⟨g.val * 16 + d.val, by omega⟩) (fun d => R.b3 ⟨g.val * 16 + d.val, by omega⟩)
    (R.p g) (R.pb g) (x g) i

/-- The logit of group `g` at position `i`. -/
def lgS (A : Fin 2048 → Fin 1024 → EReal) (Wk Wv : Fin 1024 → Fin 256 → EReal) (R : Router) (g : Fin 4)
    (i : Fin 2048) : EReal := R.lg (fun g => feat (kS A Wk g) (vS A Wv g)) g i

/-- The head a column of the output projection's input belongs to. -/
def headOf (x : Fin 1024) : Fin 16 := ⟨x.val / 64, by omega⟩
/-- The column within its head. -/
def colOf (x : Fin 1024) : Fin 64 := ⟨x.val % 64, by omega⟩
/-- The group of a head. -/
def grp (h : Fin 16) : Fin 4 := ⟨h.val / 4, by omega⟩

open Classical in
/-- A key's weight as the kernel forms it: the exponential of the score where the key is
seen, and zero elsewhere. -/
def weight (q : Fin 64 → EReal) (k : Fin 2048 → Fin 64 → EReal) (lg : Fin 2048 → EReal)
    (i j : Fin 2048) : EReal := if Allowed lg i j then Ideal.exp (∑ d, q d * k j d) else 0

/-- The kernel's attention: the weighted sum of the values over the sum of the weights. -/
def softK (w v : Fin 2048 → EReal) : EReal := Ideal.div (∑ j, w j * v j) (∑ j, w j * 1)

/-- The result as the kernel forms it: the query weights scaled beforehand. -/
def outK (A : Fin 2048 → Fin 1024 → EReal) (Wq : Fin 1024 → Fin 1024 → EReal) (Wk Wv : Fin 1024 → Fin 256 → EReal)
    (Wo : Fin 1024 → Fin 1024 → EReal) (R : Router) (i : Fin 2048) (n : Fin 1024) : EReal :=
  ∑ x : Fin 1024, softK
    (weight (qS A (fun x n => Wq x n * ((1 / 8 : ℝ) : EReal)) (headOf x) i) (kS A Wk (grp (headOf x)))
      (lgS A Wk Wv R (grp (headOf x))) i)
    (fun j => vS A Wv (grp (headOf x)) j (colOf x)) * Wo x n

/-- The result as the reference forms it. -/
def outR (A : Fin 2048 → Fin 1024 → EReal) (Wq : Fin 1024 → Fin 1024 → EReal) (Wk Wv : Fin 1024 → Fin 256 → EReal)
    (Wo : Fin 1024 → Fin 1024 → EReal) (R : Router) (i : Fin 2048) (n : Fin 1024) : EReal :=
  ∑ x : Fin 1024, softR
    (scoreR (qS A Wq (headOf x) i) (kS A Wk (grp (headOf x))) (lgS A Wk Wv R (grp (headOf x))) i)
    (fun j => scaled (vS A Wv (grp (headOf x)) j (colOf x)) (lgS A Wk Wv R (grp (headOf x)) j)) * Wo x n

end Cert.Spec
end
-- ==== Proof.Val.KW.lean ====
/-
The kernel's result in terms of the arguments: what each call is given, traced back
through the calls and the host operations before it.
-/
module
public import proofs.«01_k».proof.Proof.Val.KB
public import proofs.«01_k».proof.Proof.Val.KG
public import proofs.«01_k».proof.Proof.Val.KH
public import proofs.«01_k».proof.Proof.Val.Model
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

variable (m : (ℓ : Loc nD τ sig) → Buf (Elt Ideal) ℓ) (ρ : Dev nD → PrngReg) (c : Dev nD)

/-- The arguments' entries: the input, the four projections. -/
def inA (i : Fin 2048) (x : Fin 1024) : EReal := (m ((c : Thread nD τ).loc main_arg0) : FVec Ideal S1x2048x1024 .f32) (ix3 0 i x)
def inQ (x n : Fin 1024) : EReal := (m ((c : Thread nD τ).loc main_arg1) : FVec Ideal S1024x1024 .f32) (ix2 x n)
def inK (x : Fin 1024) (n : Fin 256) : EReal := (m ((c : Thread nD τ).loc main_arg2) : FVec Ideal S1024x256 .f32) (ix2 x n)
def inV (x : Fin 1024) (n : Fin 256) : EReal := (m ((c : Thread nD τ).loc main_arg3) : FVec Ideal S1024x256 .f32) (ix2 x n)
def inO (x n : Fin 1024) : EReal := (m ((c : Thread nD τ).loc main_arg4) : FVec Ideal S1024x1024 .f32) (ix2 x n)

/-- The router's parameters among the arguments. -/
def inR : Router where
  w1 := fun d t x => (m ((c : Thread nD τ).loc main_arg5) : FVec Ideal S256x128x1x3 .f32) (ix4 d x 0 t)
  b1 := fun d => (m ((c : Thread nD τ).loc main_arg6) : FVec Ideal S256 .f32) (ix1 d)
  w2 := fun d t x => (m ((c : Thread nD τ).loc main_arg7) : FVec Ideal S128x64x1x3 .f32) (ix4 d x 0 t)
  b2 := fun d => (m ((c : Thread nD τ).loc main_arg8) : FVec Ideal S128 .f32) (ix1 d)
  w3 := fun d t x => (m ((c : Thread nD τ).loc main_arg9) : FVec Ideal S64x32x1x3 .f32) (ix4 d x 0 t)
  b3 := fun d => (m ((c : Thread nD τ).loc main_arg10) : FVec Ideal S64 .f32) (ix1 d)
  p := fun g k => (m ((c : Thread nD τ).loc main_arg11) : FVec Ideal S4x16x1x1 .f32) (ix4 g k 0 0)
  pb := fun g => (m ((c : Thread nD τ).loc main_arg12) : FVec Ideal S4 .f32) (ix1 g)

/-- The tables the first call is given. -/
theorem tables : Tables (V1 m ρ) c := fun i d => ⟨host0_v28 (W0 m ρ c) i d, host0_v31 (W0 m ρ c) i d⟩

/-- The first call's input rows. -/
theorem in_rows : (fun i x => V1 m ρ c main_v0 (ix2 i x)) = inA m c := by
  funext i x
  exact host0_v0 (W0 m ρ c) i x

theorem qV_eq (h : Fin 16) (i : Fin 2048) (d : Fin 64) : qV (V1 m ρ) c h i d
    = qS (inA m c) (fun x n => inQ m c x n * ((1 / 8 : ℝ) : EReal)) h i d := by
  have e : (fun x n => V1 m ρ c main_v2 (ix2 x n)) = fun x n => inQ m c x n * ((1 / 8 : ℝ) : EReal) := by
    funext x n
    exact host0_v2 (W0 m ρ c) _ (W0_args m ρ c main_arg1 (by decide)) x n
  unfold qV qS
  rw [in_rows m ρ c, e]

theorem kV_eq (g : Fin 4) (i : Fin 2048) (d : Fin 64) : kV (V1 m ρ) c g i d = kS (inA m c) (inK m c) g i d := by
  have e : (fun x n => V1 m ρ c main_arg2 (ix2 x n)) = inK m c := by
    funext x n
    exact congrFun (W1_args m ρ c main_arg2 (by decide)) _
  unfold kV kS
  rw [in_rows m ρ c, e]

theorem vV_eq (g : Fin 4) (i : Fin 2048) (d : Fin 64) : vV (V1 m ρ) c g i d = vS (inA m c) (inV m c) g i d := by
  have e : (fun x n => V1 m ρ c main_arg3 (ix2 x n)) = inV m c := by
    funext x n
    exact congrFun (W1_args m ρ c main_arg3 (by decide)) _
  unfold vV vS
  rw [in_rows m ρ c, e]

/-- What the second call is given of the first's results. -/
theorem W3_vn : W3 m ρ c (Proc.devRef .tc main_v32_2) = (dat0 (V1 m ρ) c).arrAt 8 cfg0.N :=
  (W3_of m ρ c main_v32_2 (by decide)).trans (W2_arr m ρ c 8)
theorem W3_xf : W3 m ρ c (Proc.devRef .tc main_v32_3) = (dat0 (V1 m ρ) c).arrAt 9 cfg0.N :=
  (W3_of m ρ c main_v32_3 (by decide)).trans (W2_arr m ρ c 9)

/-- What the third call is given of the first's and the second's results. -/
theorem W5_qs : W5 m ρ c (Proc.devRef .tc main_v32_0) = (dat0 (V1 m ρ) c).arrAt 6 cfg0.N :=
  (W5_of m ρ c main_v32_0 (by decide)).trans ((W4_of m ρ c main_v32_0 (by decide)).trans
    ((W3_of m ρ c main_v32_0 (by decide)).trans (W2_arr m ρ c 6)))
theorem W5_kh : W5 m ρ c (Proc.devRef .tc main_v32_1) = (dat0 (V1 m ρ) c).arrAt 7 cfg0.N :=
  (W5_of m ρ c main_v32_1 (by decide)).trans ((W4_of m ρ c main_v32_1 (by decide)).trans
    ((W3_of m ρ c main_v32_1 (by decide)).trans (W2_arr m ρ c 7)))
theorem W5_vn : W5 m ρ c (Proc.devRef .tc main_v32_2) = (dat0 (V1 m ρ) c).arrAt 8 cfg0.N :=
  (W5_of m ρ c main_v32_2 (by decide)).trans ((W4_of m ρ c main_v32_2 (by decide)).trans (W3_vn m ρ c))
theorem W5_vf : W5 m ρ c (Proc.devRef .tc main_v44_1) = (dat1 (V3 m ρ) c).arrAt 11 cfg1.N :=
  (W5_of m ρ c main_v44_1 (by decide)).trans (W4_arr m ρ c 11)

/-- The values by head, a column of ones after them and zeros after that. -/
def vext (g : Fin 4) (i : Fin 2048) (e : Fin 128) : EReal :=
  if h : e.val < 64 then vS (inA m c) (inV m c) g i ⟨e.val, h⟩ else if e.val = 64 then 1 else 0

theorem vn_of {X : S4x2048x128.Idx → EReal} (h : X = (dat0 (V1 m ρ) c).arrAt 8 cfg0.N) (g : Fin 4) (i : Fin 2048) (e : Fin 128) :
    X (ix3 g i e) = vext m c g i e := by
  rw [h, vn_arr]
  unfold vext
  simp only [← vV_eq m ρ c]
  rfl

theorem vA_eq (g : Fin 4) (j : Fin 2048) (e : Fin 128) : vA (V5 m ρ) c g j e = vext m c g j e :=
  vn_of m ρ c (W5_vn m ρ c) g j e
theorem vnV_eq (g : Fin 4) (j : Fin 2048) (e : Fin 128) : vnV (V3 m ρ) c g j e = vext m c g j e :=
  vn_of m ρ c (W3_vn m ρ c) g j e

theorem kA_eq (g : Fin 4) (j : Fin 2048) (d : Fin 64) : kA (V5 m ρ) c g j d = kS (inA m c) (inK m c) g j d := by
  refine (congrFun ((W5_kh m ρ c).trans (kh_arr (V1 m ρ) c (tables m ρ c))) _).trans ?_
  exact kV_eq m ρ c g j d

theorem qA_eq (h : Fin 16) (i : Fin 2048) (d : Fin 64) : qA (V5 m ρ) c h i d
    = qS (inA m c) (fun x n => inQ m c x n * ((1 / 8 : ℝ) : EReal)) h i d := by
  refine (congrFun ((W5_qs m ρ c).trans (qs_arr (V1 m ρ) c (tables m ρ c))) _).trans ?_
  rw [← qV_eq m ρ c]
  refine congr (congr (congrArg (qV (V1 m ρ) c) (Fin.ext ?_)) (Fin.ext ?_)) rfl
  · show h.val / 4 * 4 + (i.val / 256 * 1024 + h.val % 4 * 256 + i.val % 256) % 1024 / 256 = h.val
    omega
  · show (i.val / 256 * 1024 + h.val % 4 * 256 + i.val % 256) / 1024 * 256
      + (i.val / 256 * 1024 + h.val % 4 * 256 + i.val % 256) % 256 = i.val
    omega

theorem wA_eq (g : Fin 4) (x : Fin 256) (n : Fin 1024) : wA (V5 m ρ) c g x n = inO m c ⟨g.val * 256 + x.val, by omega⟩ n :=
  (host2_v47 (W4 m ρ c) g x n).trans (congrFun (W4_args m ρ c main_arg4 (by decide)) _)

/-- The router's input as the second call is given it. -/
theorem xf_eq (g : Fin 4) (i : Fin 2048) (k : Fin 128) : (V3 m ρ c main_v32_3 : FVec Ideal S2048x512 .f32) (ix2 i ⟨g.val * 128 + k.val, by omega⟩)
    = feat (kS (inA m c) (inK m c) g) (vS (inA m c) (inV m c) g) i k := by
  refine (congrFun ((W3_xf m ρ c).trans (xf_arr (V1 m ρ) c (tables m ρ c))) _).trans ?_
  have hk : kV (V1 m ρ) c = kS (inA m c) (inK m c) := by funext g i d; exact kV_eq m ρ c g i d
  have hv : vV (V1 m ρ) c = vS (inA m c) (inV m c) := by funext g i d; exact vV_eq m ρ c g i d
  rw [hk, hv]
  have e1 : (⟨(g.val * 128 + k.val) / 128, by omega⟩ : Fin 4) = g := Fin.ext (by dsimp only; omega)
  have e2 : (⟨(g.val * 128 + k.val) % 128, by omega⟩ : Fin 128) = k := Fin.ext (by dsimp only; omega)
  refine (congr (congr (congr (congrArg feat (congrArg (kS (inA m c) (inK m c)) e1)) (congrArg (vS (inA m c) (inV m c)) e1)) rfl) e2)

/-- The router's logits. -/
def lgM (g : Fin 4) (i : Fin 2048) : EReal := lgS (inA m c) (inK m c) (inV m c) (inR m c) g i

theorem logitK_eq (g : Fin 4) (i : Fin 2048) : logitK (V3 m ρ c main_v32_3) (V3 m ρ c main_v34) (V3 m ρ c main_v36)
    (V3 m ρ c main_v38) (V3 m ρ c main_v39) (V3 m ρ c main_v40) (V3 m ρ c main_v41) (V3 m ρ c main_v42) (V3 m ρ c main_v43) g i
      = lgM m c g i := by
  unfold logitK lgM lgS Router.lg
  have ha : ∀ a, a ∈ argRefs → W2 m ρ c (Proc.devRef .tc a) = m ((c : Thread nD τ).loc a) := W2_args m ρ c
  congr 1
  · funext d t k
    exact (host1_v34 (W2 m ρ c) t k _).trans (congrFun (ha main_arg5 (by decide)) _)
  · funext d
    exact (host1_v40 (W2 m ρ c) _).trans (congrFun (ha main_arg6 (by decide)) _)
  · funext d t k
    exact (host1_v36 (W2 m ρ c) t k _).trans (congrFun (ha main_arg7 (by decide)) _)
  · funext d
    exact (host1_v41 (W2 m ρ c) _).trans (congrFun (ha main_arg8 (by decide)) _)
  · funext d t k
    exact (host1_v38 (W2 m ρ c) t k _).trans (congrFun (ha main_arg9 (by decide)) _)
  · funext d
    exact (host1_v42 (W2 m ρ c) _).trans (congrFun (ha main_arg10 (by decide)) _)
  · funext k
    exact (host1_v39 (W2 m ρ c) g k).trans (congrFun (ha main_arg11 (by decide)) _)
  · exact (host1_v43 (W2 m ρ c) g).trans (congrFun (ha main_arg12 (by decide)) _)
  · funext i k
    exact xf_eq m ρ c g i k

open Classical in
theorem selV_eq (g : Fin 4) (i : Fin 2048) : selV (V3 m ρ) c g i = if Sel (lgM m c g) i then 1 else 0 := by
  have e : logitK (V3 m ρ c main_v32_3) (V3 m ρ c main_v34) (V3 m ρ c main_v36)
    (V3 m ρ c main_v38) (V3 m ρ c main_v39) (V3 m ρ c main_v40) (V3 m ρ c main_v41) (V3 m ρ c main_v42) (V3 m ρ c main_v43) g = lgM m c g := by
    funext i; exact logitK_eq m ρ c g i
  unfold selV selK
  rw [e]

/-- The selection the third call is given. -/
theorem sA_eq (g : Fin 4) (j : Fin 2048) : sA (V5 m ρ) c g j = selV (V3 m ρ) c g j :=
  (host2_v46 (W4 m ρ c) g j).trans (congrFun ((W4_arr m ρ c 10).trans (sel_arr (V3 m ρ) c)) _)

theorem fA_eq (g : Fin 4) (j : Fin 2048) (e : Fin 128) : fA (V5 m ρ) c g j e = vnV (V3 m ρ) c g j e * selV (V3 m ρ) c g j :=
  congrFun ((W5_vf m ρ c).trans (vf_arr (V3 m ρ) c)) _

theorem chosen : Chosen (V5 m ρ) c := by
  constructor
  · intro g j
    rw [sA_eq, selV_eq]
    by_cases h : Sel (lgM m c g) j
    · exact Or.inr (if_pos h)
    · exact Or.inl (if_neg h)
  · intro g j e
    rw [fA_eq, sA_eq, vA_eq, vnV_eq]

theorem sA_pos (g : Fin 4) (j : Fin 2048) : 0 < sA (V5 m ρ) c g j ↔ Sel (lgM m c g) j := by
  rw [sA_eq, selV_eq]
  by_cases h : Sel (lgM m c g) j
  · rw [if_pos h]; exact ⟨fun _ => h, fun _ => zero_lt_one⟩
  · rw [if_neg h]; exact ⟨fun a => absurd a (lt_irrefl _), fun a => absurd a h⟩

/-- One key's term, its weight times the value's column. -/
theorem termA_eq (h : Fin 16) (i : Fin 2048) (e : Fin 128) (j : Fin 2048) : termA (V5 m ρ) c h i e j
    = weight (qS (inA m c) (fun x n => inQ m c x n * ((1 / 8 : ℝ) : EReal)) h i) (kS (inA m c) (inK m c) (grp h))
        (lgM m c (grp h)) i j * vext m c (grp h) j e := by
  unfold termA weight
  simp only [qA_eq, kA_eq, vA_eq]
  have hp : (j.val ≤ i.val ∧ (i.val < j.val + 512 ∨ 0 < sA (V5 m ρ) c ⟨h.val / 4, by omega⟩ j)) ↔ Allowed (lgM m c (grp h)) i j :=
    and_congr_right fun _ => or_congr_right (sA_pos m ρ c _ j)
  refine congrArg (· * vext m c (grp h) j e) ?_
  by_cases ha : Allowed (lgM m c (grp h)) i j
  · exact (if_pos (hp.mpr ha)).trans (if_pos ha).symm
  · exact (if_neg fun a => ha (hp.mp a)).trans (if_neg ha).symm

theorem vext_val (g : Fin 4) (j : Fin 2048) (x : ℕ) (h : x < 64) : vext m c g j ⟨x, by omega⟩ = vS (inA m c) (inV m c) g j ⟨x, h⟩ :=
  dif_pos h
theorem vext_one (g : Fin 4) (j : Fin 2048) : vext m c g j 64 = 1 := by
  unfold vext; rw [dif_neg (by decide), if_pos (by decide)]

/-- What the groups add makes up the result. -/
theorem parts (i : Fin 2048) (n : Fin 1024) : (∑ g : Fin 4, partA (V5 m ρ) c g i n)
    = outK (inA m c) (inQ m c) (inK m c) (inV m c) (inO m c) (inR m c) i n := by
  unfold outK
  refine Eq.trans ?_ (Fin.sum_univ_tiles 4 256 rfl _).symm
  refine Finset.sum_congr rfl fun g _ => ?_
  unfold partA
  refine Finset.sum_congr rfl fun x _ => ?_
  simp only [termA_eq, vext_one, wA_eq]
  have hh : headOf ⟨g.val * 256 + x.val, by omega⟩ = ⟨g.val * 4 + x.val / 64, by omega⟩ :=
    Fin.ext (by show (g.val * 256 + x.val) / 64 = g.val * 4 + x.val / 64; omega)
  have hc : colOf ⟨g.val * 256 + x.val, by omega⟩ = ⟨x.val % 64, by omega⟩ :=
    Fin.ext (by show (g.val * 256 + x.val) % 64 = x.val % 64; omega)
  rw [hh, hc]
  simp only [vext_val m c _ _ (x.val % 64) (by omega)]
  rfl

/-- The kernel's result, every entry. -/
theorem kernel_apply (i : Fin 2048) (n : Fin 1024) :
    (W6 m ρ c (Proc.devRef .tc main_v48) : FVec Ideal S2048x1024 .f32) (ix2 i n)
      = outK (inA m c) (inQ m c) (inK m c) (inV m c) (inO m c) (inR m c) i n :=
  (congrFun ((W6_arr m ρ c 6).trans (out_arr (V5 m ρ) c (chosen m ρ c))) _).trans (parts m ρ c i n)
end Cert.KernelIdeal.Val
end
-- ==== Proof.Val.RefA.lean ====
/-
What the reference's first operations compute, entry by entry: the rotated queries
and keys, the values, the router's layers and logits.
-/
module
public import proofs.«01_k».proof.Proof.Gen.ReferenceIdeal.Read
public import proofs.«01_k».proof.Proof.Val.Spec
@[expose] public section
set_option maxRecDepth 16384
noncomputable section
namespace Cert.ReferenceIdeal.Val
open Idealize.ShloMosaic Idealize.ShloMosaic.TcCoe
open Cert.ReferenceIdeal Cert.ReferenceIdeal.Read Cert.Spec

/-- The padding's zero. -/
theorem sitofp0 : FloatOps.sitofp (F := Ideal) FTy.f32 0#32 = 0 := by
  simp [FloatOps.sitofp]

/-- The angle table. -/
theorem angle_apply (i : Fin 2048) (d : Fin 32) :
    val_main_v22 (F := Ideal) (ix2 i d) = angle i d := by
  pointwise [val_main_v22,val_main_v20,val_main_v21,val_main_v19,val_main_v18,val_main_v17,
    val_main_v16,val_main_v15,val_main_v14,val_main_v13,val_main_v12,val_main_v11,val_main_v10,
    val_main_v9,val_main_v8,val_main_v7,val_main_v6,val_main_cst,val_main_cst_0,val_main_cst_1,
    val_main_cst_2,val_main_cst_3, angle]

/-- The rotated queries. -/
theorem q_apply (x0 : FVec Ideal S1x2048x1024 .f32) (x1 : FVec Ideal S1024x1024 .f32)
    (i : Fin 2048) (h : Fin 16) (d : Fin 64) :
    val_main_v39 (F := Ideal) x0 x1 (ix4 0 i h d)
      = rope (fun d => dot (fun i x => x0 (ix3 0 i x)) (fun x j => x1 (ix2 x j)) i (colQ h d)) i d := by
  pointwise [val_main_v39, val_main_v38, val_main_v36, val_main_v37, val_main_v35, val_main_v34,
    val_main_v33, val_main_v32, val_main_v31, val_main_v30, val_main_v26, val_main_v29,
    val_main_v25, val_main_v23, val_main_v24, val_main_v27, val_main_v28, val_main_v1,
    val_main_v0, angle_apply]
  rfl

/-- The angle table of the keys. -/
theorem angle_apply' (i : Fin 2048) (d : Fin 32) :
    val_main_v56 (F := Ideal) (ix2 i d) = angle i d := by
  pointwise [val_main_v56,val_main_v54,val_main_v55,val_main_v53,val_main_v52,val_main_v51,
    val_main_v50,val_main_v49,val_main_v48,val_main_v47,val_main_v46,val_main_v45,val_main_v44,
    val_main_v43,val_main_v42,val_main_v41,val_main_v40,val_main_cst_4,val_main_cst_5,val_main_cst_6,
    val_main_cst_7,val_main_cst_8, angle]

/-- The rotated keys. -/
theorem k_apply (x0 : FVec Ideal S1x2048x1024 .f32) (x2 : FVec Ideal S1024x256 .f32)
    (i : Fin 2048) (h : Fin 4) (d : Fin 64) :
    val_main_v73 (F := Ideal) x0 x2 (ix4 0 i h d)
      = rope (fun d => dot (fun i x => x0 (ix3 0 i x)) (fun x j => x2 (ix2 x j)) i (colK h d)) i d := by
  pointwise [val_main_v73, val_main_v72, val_main_v70, val_main_v71, val_main_v69, val_main_v68,
    val_main_v67, val_main_v66, val_main_v65, val_main_v64, val_main_v60, val_main_v63,
    val_main_v59, val_main_v57, val_main_v58, val_main_v61, val_main_v62, val_main_v3,
    val_main_v2, angle_apply']
  rfl

/-- The values. -/
theorem v_apply (x0 : FVec Ideal S1x2048x1024 .f32) (x3 : FVec Ideal S1024x256 .f32)
    (i : Fin 2048) (h : Fin 4) (d : Fin 64) :
    val_main_v5 (F := Ideal) x0 x3 (ix4 0 i h d)
      = dot (fun i x => x0 (ix3 0 i x)) (fun x j => x3 (ix2 x j)) i (colK h d) := by
  pointwise [val_main_v5, val_main_v4]
  rfl

/-- The router's input. -/
theorem feat_apply (x0 : FVec Ideal S1x2048x1024 .f32) (x2 x3 : FVec Ideal S1024x256 .f32)
    (i : Fin 2048) (h : Fin 4) (c : Fin 128) :
    val_main_v75 (F := Ideal) x0 x2 x3 (ix2 i ⟨h.val * 128 + c.val, by omega⟩)
      = feat (fun i d => val_main_v73 (F := Ideal) x0 x2 (ix4 0 i h d))
          (fun i d => val_main_v5 (F := Ideal) x0 x3 (ix4 0 i h d)) i c := by
  pointwise [val_main_v75, val_main_v74, feat]

/-- Layer 1 of the router. -/
theorem layer1_apply (x0 : FVec Ideal S1x2048x1024 .f32) (x2 x3 : FVec Ideal S1024x256 .f32)
    (x5 : FVec Ideal S256x128x1x3 .f32) (x6 : FVec Ideal S256 .f32)
    (i : Fin 2048) (h : Fin 4) (c : Fin 64) :
    val_main_v112 (F := Ideal) x0 x2 x3 x5 x6 (ix2 i ⟨h.val * 64 + c.val, by omega⟩)
      = layer (fun t x => x5 (ix4 ⟨h.val * 64 + c.val, by omega⟩ x 0 t))
          (x6 (ix1 ⟨h.val * 64 + c.val, by omega⟩))
          (fun i c => val_main_v75 (F := Ideal) x0 x2 x3 (ix2 i ⟨h.val * 128 + c.val, by omega⟩)) i := by
  pointwise [val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112,
    val_main_v76, val_main_call0_v0, val_main_c, val_main_cst_9, val_main_cst_10, val_main_cst_11]
  refine layer_of _ _ _ _ ?_ ?_ ?_
  · exact tap0 (fun a b => val_main_v75 (F := Ideal) x0 x2 x3 (ix2 a b)) (h.val * 128) (by omega) _ i
      sitofp0
  · exact tap1 (fun a b => val_main_v75 (F := Ideal) x0 x2 x3 (ix2 a b)) (h.val * 128) (by omega) _ i
  · exact tap2 (fun a b => val_main_v75 (F := Ideal) x0 x2 x3 (ix2 a b)) (h.val * 128) (by omega) _ i
      sitofp0

/-- Layer 2 of the router. -/
theorem layer2_apply (x0 : FVec Ideal S1x2048x1024 .f32) (x2 x3 : FVec Ideal S1024x256 .f32)
    (x5 : FVec Ideal S256x128x1x3 .f32) (x6 : FVec Ideal S256 .f32)
    (x7 : FVec Ideal S128x64x1x3 .f32) (x8 : FVec Ideal S128 .f32)
    (i : Fin 2048) (h : Fin 4) (c : Fin 32) :
    val_main_v149 (F := Ideal) x0 x2 x3 x5 x6 x7 x8 (ix2 i ⟨h.val * 32 + c.val, by omega⟩)
      = layer (fun t x => x7 (ix4 ⟨h.val * 32 + c.val, by omega⟩ x 0 t))
          (x8 (ix1 ⟨h.val * 32 + c.val, by omega⟩))
          (fun i c => val_main_v112 (F := Ideal) x0 x2 x3 x5 x6 (ix2 i ⟨h.val * 64 + c.val, by omega⟩)) i := by
  pointwise [val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149,
    val_main_v113, val_main_call1_v0, val_main_c_12, val_main_cst_13, val_main_cst_14, val_main_cst_15]
  refine layer_of _ _ _ _ ?_ ?_ ?_
  · exact tap0 (fun a b => val_main_v112 (F := Ideal) x0 x2 x3 x5 x6 (ix2 a b)) (h.val * 64) (by omega) _ i
      sitofp0
  · exact tap1 (fun a b => val_main_v112 (F := Ideal) x0 x2 x3 x5 x6 (ix2 a b)) (h.val * 64) (by omega) _ i
  · exact tap2 (fun a b => val_main_v112 (F := Ideal) x0 x2 x3 x5 x6 (ix2 a b)) (h.val * 64) (by omega) _ i
      sitofp0

/-- Layer 3 of the router. -/
theorem layer3_apply (x0 : FVec Ideal S1x2048x1024 .f32) (x2 x3 : FVec Ideal S1024x256 .f32)
    (x5 : FVec Ideal S256x128x1x3 .f32) (x6 : FVec Ideal S256 .f32)
    (x7 : FVec Ideal S128x64x1x3 .f32) (x8 : FVec Ideal S128 .f32)
    (x9 : FVec Ideal S64x32x1x3 .f32) (x10 : FVec Ideal S64 .f32)
    (i : Fin 2048) (h : Fin 4) (c : Fin 16) :
    val_main_v186 (F := Ideal) x0 x2 x3 x5 x6 x7 x8 x9 x10 (ix2 i ⟨h.val * 16 + c.val, by omega⟩)
      = layer (fun t x => x9 (ix4 ⟨h.val * 16 + c.val, by omega⟩ x 0 t))
          (x10 (ix1 ⟨h.val * 16 + c.val, by omega⟩))
          (fun i c => val_main_v149 (F := Ideal) x0 x2 x3 x5 x6 x7 x8 (ix2 i ⟨h.val * 32 + c.val, by omega⟩)) i := by
  pointwise [val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186,
    val_main_v150, val_main_call2_v0, val_main_c_16, val_main_cst_17, val_main_cst_18, val_main_cst_19]
  refine layer_of _ _ _ _ ?_ ?_ ?_
  · exact tap0 (fun a b => val_main_v149 (F := Ideal) x0 x2 x3 x5 x6 x7 x8 (ix2 a b)) (h.val * 32) (by omega) _ i
      sitofp0
  · exact tap1 (fun a b => val_main_v149 (F := Ideal) x0 x2 x3 x5 x6 x7 x8 (ix2 a b)) (h.val * 32) (by omega) _ i
  · exact tap2 (fun a b => val_main_v149 (F := Ideal) x0 x2 x3 x5 x6 x7 x8 (ix2 a b)) (h.val * 32) (by omega) _ i
      sitofp0

/-- The logits. -/
theorem logit_apply (x0 : FVec Ideal S1x2048x1024 .f32) (x2 x3 : FVec Ideal S1024x256 .f32)
    (x5 : FVec Ideal S256x128x1x3 .f32) (x6 : FVec Ideal S256 .f32)
    (x7 : FVec Ideal S128x64x1x3 .f32) (x8 : FVec Ideal S128 .f32)
    (x9 : FVec Ideal S64x32x1x3 .f32) (x10 : FVec Ideal S64 .f32)
    (x11 : FVec Ideal S4x16x1x1 .f32) (x12 : FVec Ideal S4 .f32) (i : Fin 2048) (h : Fin 4) :
    val_main_v198 (F := Ideal) x0 x2 x3 x5 x6 x7 x8 x9 x10 x11 x12 (ix2 i h)
      = logit (fun c t x => x5 (ix4 ⟨h.val * 64 + c.val, by omega⟩ x 0 t))
          (fun c => x6 (ix1 ⟨h.val * 64 + c.val, by omega⟩))
          (fun c t x => x7 (ix4 ⟨h.val * 32 + c.val, by omega⟩ x 0 t))
          (fun c => x8 (ix1 ⟨h.val * 32 + c.val, by omega⟩))
          (fun c t x => x9 (ix4 ⟨h.val * 16 + c.val, by omega⟩ x 0 t))
          (fun c => x10 (ix1 ⟨h.val * 16 + c.val, by omega⟩))
          (fun c => x11 (ix4 h c 0 0)) (x12 (ix1 h))
          (feat (fun i d => val_main_v73 (F := Ideal) x0 x2 (ix4 0 i h d))
            (fun i d => val_main_v5 (F := Ideal) x0 x3 (ix4 0 i h d))) i := by
  pointwise [val_main_v198, val_main_v197, val_main_v196, val_main_v195, val_main_v194,
    val_main_v193, val_main_v192, val_main_v191, val_main_v190, val_main_v189, val_main_v188,
    val_main_v187, val_main_call3_v0, val_main_c_20, val_main_cst_21]
  refine congrArg (· + _) (Finset.sum_congr rfl fun x _ => ?_)
  rw [mul_comm, dif_pos (by omega), layer3_apply]
  refine congrArg (· * _) ?_
  refine congrArg (fun x => layer _ _ x i) (funext fun i => funext fun c => ?_)
  rw [layer2_apply]
  refine congrArg (fun x => layer _ _ x i) (funext fun i => funext fun c => ?_)
  rw [layer1_apply]
  refine congrArg (fun x => layer _ _ x i) (funext fun i => funext fun c => ?_)
  exact feat_apply x0 x2 x3 i h c

end Cert.ReferenceIdeal.Val
end
-- ==== Proof.Val.RefB.lean ====
module
public import proofs.«01_k».proof.Proof.Val.RefA
public import Idealize.ShloMosaic.Lib.Affine
public import Idealize.ShloMosaic.Lib.WordArith
public import Idealize.ShloMosaic.Lib.WordCmp
@[expose] public section
set_option maxRecDepth 16384
noncomputable section
namespace Cert.ReferenceIdeal.Val
open Idealize.ShloMosaic Idealize.ShloMosaic.TcCoe
open Cert.ReferenceIdeal Cert.ReferenceIdeal.Read Cert.Spec

variable (x0 : FVec Ideal S1x2048x1024 .f32) (x1 : FVec Ideal S1024x1024 .f32)
    (x2 x3 : FVec Ideal S1024x256 .f32) (x4 : FVec Ideal S1024x1024 .f32)
    (x5 : FVec Ideal S256x128x1x3 .f32) (x6 : FVec Ideal S256 .f32)
    (x7 : FVec Ideal S128x64x1x3 .f32) (x8 : FVec Ideal S128 .f32)
    (x9 : FVec Ideal S64x32x1x3 .f32) (x10 : FVec Ideal S64 .f32)
    (x11 : FVec Ideal S4x16x1x1 .f32) (x12 : FVec Ideal S4 .f32)

/-- The keys the router keeps. -/
theorem sel_apply (i : Fin 2048) (h : Fin 4) :
    val_main_v208 (F := Ideal) x0 x2 x3 x5 x6 x7 x8 x9 x10 x11 x12 (ix3 0 i h) = 1#1
      ↔ Sel (fun i => val_main_v198 (F := Ideal) x0 x2 x3 x5 x6 x7 x8 x9 x10 x11 x12 (ix2 i h)) i := by
  pointwise [val_main_v199, val_main_v200, val_main_v201, val_main_v202, val_main_v203, val_main_v204, val_main_v205, val_main_v206, val_main_v207, val_main_v208, val_main_call4_v0,
    val_main_call4_cst, val_main_cst_22, val_main_c_23]
  rw [IntOp.ori_eq_one, IntOp.cmpi_slt, WordArith.toInt_ofNat_small _ (by omega)]
  unfold Sel
  refine or_congr ?_ ?_
  · by_cases h : 0 < val_main_v198 (F := Ideal) x0 x2 x3 x5 x6 x7 x8 x9 x10 x11 x12 (ix2 i h)
    · simp [h]
    · simp [h]
  · show (i.val : Int) < 4 ↔ _
    omega

/-- The router's factor. -/
theorem factor_apply (i : Fin 2048) (h : Fin 4) :
    val_main_v211 (F := Ideal) x0 x2 x3 x5 x6 x7 x8 x9 x10 x11 x12 (ix3 0 i h)
      = 1 + max (val_main_v198 (F := Ideal) x0 x2 x3 x5 x6 x7 x8 x9 x10 x11 x12 (ix2 i h)) 0
        - max (val_main_v198 (F := Ideal) x0 x2 x3 x5 x6 x7 x8 x9 x10 x11 x12 (ix2 i h)) 0 := by
  pointwise [val_main_v199, val_main_v200, val_main_v209, val_main_v210, val_main_v211, val_main_call4_v0, val_main_call4_cst,
    val_main_cst_24]

/-- The mask. -/
theorem allowed_apply (i j : Fin 2048) (h : Fin 16) :
    val_main_v250 (F := Ideal) x0 x2 x3 x5 x6 x7 x8 x9 x10 x11 x12 (ix4 0 h i j) = 1#1
      ↔ Allowed (fun i => val_main_v198 (F := Ideal) x0 x2 x3 x5 x6 x7 x8 x9 x10 x11 x12
          (ix2 i ⟨h.val / 4, by omega⟩)) i j := by
  pointwise [val_main_v219, val_main_v220, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250,
    val_main_v201, val_main_c_26, val_main_c_27]
  have hs : (IntOp.subi (BitVec.ofNat 32 i.val) (BitVec.ofNat 32 j.val)).toInt = (i.val : Int) - j.val := by
    rw [WordArith.toInt_subi_of_nonneg] <;> simp only [WordArith.toInt_ofNat_small _ (show i.val < 2 ^ 31 by omega),
      WordArith.toInt_ofNat_small _ (show j.val < 2 ^ 31 by omega)] <;> omega
  simp only [IntOp.ori_eq_one, IntOp.andi_eq_one, IntOp.cmpi_slt, IntOp.cmpi_sle,
    sel_apply x0 x2 x3 x5 x6 x7 x8 x9 x10 x11 x12 j ⟨h.val / 4, by omega⟩,
    WordArith.toInt_ofNat_small _ (show i.val < 2 ^ 31 by omega),
    WordArith.toInt_ofNat_small _ (show j.val < 2 ^ 31 by omega), hs,
    show (512#32 : BitVec 32).toInt = 512 from rfl, show (4#32 : BitVec 32).toInt = 4 from rfl]
  unfold Allowed
  have hS : j.val < 4 → Sel (fun i => val_main_v198 (F := Ideal) x0 x2 x3 x5 x6 x7 x8 x9 x10 x11 x12
          (ix2 i ⟨h.val / 4, by omega⟩)) j := fun h => Or.inr h
  constructor
  · rintro (⟨h1, h2 | h3⟩ | ⟨h1, h2⟩)
    · exact ⟨by omega, Or.inl (by omega)⟩
    · exact ⟨by omega, Or.inr (hS (by omega))⟩
    · exact ⟨by omega, Or.inr h2⟩
  · rintro ⟨h1, h2 | h2⟩
    · exact Or.inl ⟨by omega, Or.inl (by omega)⟩
    · exact Or.inr ⟨by omega, h2⟩

/-- The masked scores. -/
theorem score_apply (i j : Fin 2048) (h : Fin 16) :
    val_main_v251 (F := Ideal) x0 x1 x2 x3 x5 x6 x7 x8 x9 x10 x11 x12 (ix4 0 h i j)
      = scoreR (fun d => val_main_v39 (F := Ideal) x0 x1 (ix4 0 i h d))
          (fun j d => val_main_v73 (F := Ideal) x0 x2 (ix4 0 j ⟨h.val / 4, by omega⟩ d))
          (fun i => val_main_v198 (F := Ideal) x0 x2 x3 x5 x6 x7 x8 x9 x10 x11 x12
            (ix2 i ⟨h.val / 4, by omega⟩)) i j := by
  have e : val_main_v226 (F := Ideal) x0 x1 x2 (ix4 0 h i j)
      = Ideal.div (∑ x, val_main_v39 (F := Ideal) x0 x1 (ix4 0 i h x)
          * val_main_v73 (F := Ideal) x0 x2 (ix4 0 j ⟨h.val / 4, by omega⟩ x)) (8 : ℝ) := by
    rw [← bits_8]
    pointwise [val_main_v215, val_main_v216, val_main_v221, val_main_v222, val_main_v223, val_main_v224, val_main_v225, val_main_v226,
      val_main_cst_25]
  have e' : val_main_call5_v1 (F := Ideal) (ix4 0 h i j) = ⊥ := by
    rw [← bits_bot]; pointwise [val_main_call5_v1, val_main_call5_v0, val_main_cst_28]; rfl
  pointwise [val_main_v251]
  rw [e, e']
  unfold scoreR Scalar.select
  classical
  exact if_congr (allowed_apply x0 x2 x3 x5 x6 x7 x8 x9 x10 x11 x12 i j h) rfl rfl

/-- A row's maximum, from the initial value. -/
theorem rowmax (y : FVec Ideal S1x16x2048x2048 .f32) (c : FVec Ideal S_ .f32) (i : Fin 2048) (h : Fin 16) :
    Host.reduce FloatOps.maximumf y c Gen.reducesTo_S1x16x2048x2048_S1x16x2048_d3 Gen.h_S_
      (ix3 0 h i)
      = Finset.univ.fold max (c (Shape.Idx.first Gen.h_S_))
        (fun x : Fin 2048 => y (ix4 0 h i x)) := by
  pointwise []

/-- The row maxima. -/
theorem max_apply (i : Fin 2048) (h : Fin 16) :
    val_main_v254 (F := Ideal) x0 x1 x2 x3 x5 x6 x7 x8 x9 x10 x11 x12 (ix3 0 h i)
      = max ⊥ (Finset.univ.fold max ⊥ (fun x : Fin 2048 => val_main_v251 (F := Ideal) x0 x1 x2 x3 x5 x6 x7 x8 x9 x10 x11 x12 (ix4 0 h i x))) := by
  have e : val_main_v252 (F := Ideal) x0 x1 x2 x3 x5 x6 x7 x8 x9 x10 x11 x12 (ix3 0 h i)
      = Finset.univ.fold max ⊥
        (fun x : Fin 2048 => val_main_v251 (F := Ideal) x0 x1 x2 x3 x5 x6 x7 x8 x9 x10 x11 x12
          (ix4 0 h i x)) := by
    rw [← bits_bot]
    exact rowmax _ _ i h
  have e' : val_main_v253 (F := Ideal) (ix3 0 h i) = ⊥ := by
    rw [← bits_bot]
    pointwise [val_main_v253, val_main_cst_30]
  rw [val_main_v254_apply, e, e', Ideal.maximumf_def]

/-- The weights. -/
theorem soft_apply (i j : Fin 2048) (h : Fin 16) :
    val_main_v262 (F := Ideal) x0 x1 x2 x3 x5 x6 x7 x8 x9 x10 x11 x12 (ix4 0 h i j)
      = Ideal.div (Ideal.exp (val_main_v251 (F := Ideal) x0 x1 x2 x3 x5 x6 x7 x8 x9 x10 x11 x12 (ix4 0 h i j)
            - val_main_v254 (F := Ideal) x0 x1 x2 x3 x5 x6 x7 x8 x9 x10 x11 x12 (ix3 0 h i)))
          (∑ j', Ideal.exp (val_main_v251 (F := Ideal) x0 x1 x2 x3 x5 x6 x7 x8 x9 x10 x11 x12 (ix4 0 h i j')
            - val_main_v254 (F := Ideal) x0 x1 x2 x3 x5 x6 x7 x8 x9 x10 x11 x12 (ix3 0 h i))) := by
  pointwise [val_main_v255, val_main_v256, val_main_v257, val_main_v258, val_main_v259, val_main_v260, val_main_v261, val_main_v262, val_main_cst_31]

/-- A head's attention at a query and a column. -/
theorem att_apply (i : Fin 2048) (h : Fin 16) (d : Fin 64) :
    val_main_v263 (F := Ideal) x0 x1 x2 x3 x5 x6 x7 x8 x9 x10 x11 x12 (ix4 0 h i d)
      = softR (fun j => val_main_v251 (F := Ideal) x0 x1 x2 x3 x5 x6 x7 x8 x9 x10 x11 x12 (ix4 0 h i j))
          (fun j => scaled (val_main_v5 (F := Ideal) x0 x3 (ix4 0 j ⟨h.val / 4, by omega⟩ d))
            (val_main_v198 (F := Ideal) x0 x2 x3 x5 x6 x7 x8 x9 x10 x11 x12 (ix2 j ⟨h.val / 4, by omega⟩))) := by
  have e : ∀ j, val_main_v223 (F := Ideal) x0 x2 x3 x5 x6 x7 x8 x9 x10 x11 x12 (ix4 0 h j d)
      = scaled (val_main_v5 (F := Ideal) x0 x3 (ix4 0 j ⟨h.val / 4, by omega⟩ d))
            (val_main_v198 (F := Ideal) x0 x2 x3 x5 x6 x7 x8 x9 x10 x11 x12 (ix2 j ⟨h.val / 4, by omega⟩)) := by
    intro j
    pointwise [val_main_v223, val_main_v217, val_main_v218, val_main_v212, val_main_v213, val_main_v214, factor_apply]
    rfl
  have e' : val_main_v263 (F := Ideal) x0 x1 x2 x3 x5 x6 x7 x8 x9 x10 x11 x12 (ix4 0 h i d)
      = ∑ j, val_main_v262 (F := Ideal) x0 x1 x2 x3 x5 x6 x7 x8 x9 x10 x11 x12 (ix4 0 h i j)
          * val_main_v223 (F := Ideal) x0 x2 x3 x5 x6 x7 x8 x9 x10 x11 x12 (ix4 0 h j d) := by
    pointwise [val_main_v263]
  rw [e']
  unfold softR
  refine Finset.sum_congr rfl fun j _ => ?_
  rw [e, soft_apply, max_apply]

/-- The result. -/
theorem out_apply (i : Fin 2048) (n : Fin 1024) :
    val_main_v267 (F := Ideal) x0 x1 x2 x3 x4 x5 x6 x7 x8 x9 x10 x11 x12 (ix2 i n)
      = ∑ x : Fin 1024, val_main_v263 (F := Ideal) x0 x1 x2 x3 x5 x6 x7 x8 x9 x10 x11 x12
          (ix4 0 ⟨x.val / 64, by omega⟩ i ⟨x.val % 64, by omega⟩) * x4 (ix2 x n) := by
  pointwise [val_main_v264, val_main_v265, val_main_v266, val_main_v267]
end Cert.ReferenceIdeal.Val
end
-- ==== Proof.Val.RefC.lean ====
/-
The reference's result in terms of the arguments' entries.
-/
module
public import proofs.«01_k».proof.Proof.Val.RefB
public import proofs.«01_k».proof.Proof.Val.Model
@[expose] public section
set_option maxRecDepth 16384
noncomputable section
namespace Cert.ReferenceIdeal.Val
open Idealize.ShloMosaic Idealize.ShloMosaic.TcCoe
open Cert.ReferenceIdeal Cert.ReferenceIdeal.Read Cert.Spec

variable (x0 : FVec Ideal S1x2048x1024 .f32) (x1 : FVec Ideal S1024x1024 .f32)
  (x2 x3 : FVec Ideal S1024x256 .f32) (x4 : FVec Ideal S1024x1024 .f32)
  (x5 : FVec Ideal S256x128x1x3 .f32) (x6 : FVec Ideal S256 .f32)
  (x7 : FVec Ideal S128x64x1x3 .f32) (x8 : FVec Ideal S128 .f32)
  (x9 : FVec Ideal S64x32x1x3 .f32) (x10 : FVec Ideal S64 .f32)
  (x11 : FVec Ideal S4x16x1x1 .f32) (x12 : FVec Ideal S4 .f32)

/-- The router's parameters among the arguments. -/
def router : Router where
  w1 := fun d t x => x5 (ix4 d x 0 t)
  b1 := fun d => x6 (ix1 d)
  w2 := fun d t x => x7 (ix4 d x 0 t)
  b2 := fun d => x8 (ix1 d)
  w3 := fun d t x => x9 (ix4 d x 0 t)
  b3 := fun d => x10 (ix1 d)
  p := fun g c => x11 (ix4 g c 0 0)
  pb := fun g => x12 (ix1 g)

/-- The reference's result, every entry. -/
theorem ref_apply (i : Fin 2048) (n : Fin 1024) :
    val_main_v267 (F := Ideal) x0 x1 x2 x3 x4 x5 x6 x7 x8 x9 x10 x11 x12 (ix2 i n)
      = outR (fun i x => x0 (ix3 0 i x)) (fun x n => x1 (ix2 x n)) (fun x n => x2 (ix2 x n))
          (fun x n => x3 (ix2 x n)) (fun x n => x4 (ix2 x n)) (router x5 x6 x7 x8 x9 x10 x11 x12) i n := by
  have hk : ∀ (g : Fin 4) (j : Fin 2048) (d : Fin 64), val_main_v73 (F := Ideal) x0 x2 (ix4 0 j g d)
      = kS (fun i x => x0 (ix3 0 i x)) (fun x n => x2 (ix2 x n)) g j d := fun g j d => k_apply x0 x2 j g d
  have hv : ∀ (g : Fin 4) (j : Fin 2048) (d : Fin 64), val_main_v5 (F := Ideal) x0 x3 (ix4 0 j g d)
      = vS (fun i x => x0 (ix3 0 i x)) (fun x n => x3 (ix2 x n)) g j d := fun g j d => v_apply x0 x3 j g d
  have hq : ∀ (h : Fin 16) (j : Fin 2048) (d : Fin 64), val_main_v39 (F := Ideal) x0 x1 (ix4 0 j h d)
      = qS (fun i x => x0 (ix3 0 i x)) (fun x n => x1 (ix2 x n)) h j d := fun h j d => q_apply x0 x1 j h d
  have hl : ∀ (g : Fin 4) (j : Fin 2048), val_main_v198 (F := Ideal) x0 x2 x3 x5 x6 x7 x8 x9 x10 x11 x12 (ix2 j g)
      = lgS (fun i x => x0 (ix3 0 i x)) (fun x n => x2 (ix2 x n)) (fun x n => x3 (ix2 x n))
          (router x5 x6 x7 x8 x9 x10 x11 x12) g j := by
    intro g j
    rw [logit_apply]
    simp only [hk, hv]
    rfl
  rw [out_apply]
  refine Finset.sum_congr rfl fun x _ => ?_
  rw [att_apply]
  simp only [score_apply, hk, hv, hq, hl]
  rfl
end Cert.ReferenceIdeal.Val
end
-- ==== Proof.Val.Soft.lean ====
/-
Where the arguments are real numbers, the kernel's attention is the reference's: the
row's maximum cancels, the scale of the query weights is the division of the scores,
and the router's factor on the values is one.
-/
module
public import proofs.«01_k».proof.Proof.Val.Model
@[expose] public section
noncomputable section
namespace Cert.Spec
open Idealize.ShloMosaic

/-- The extended real is a real number. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} : IsR x → IsR y → IsR (x + y) := by
  rintro ⟨a, rfl⟩ ⟨b, rfl⟩; exact ⟨a + b, (EReal.coe_add a b).symm⟩
theorem IsR.mul {x y : EReal} : IsR x → IsR y → IsR (x * y) := by
  rintro ⟨a, rfl⟩ ⟨b, rfl⟩; exact ⟨a * b, (EReal.coe_mul a b).symm⟩
theorem IsR.neg {x : EReal} : IsR x → IsR (-x) := by
  rintro ⟨a, rfl⟩; exact ⟨-a, (EReal.coe_neg a).symm⟩

/-- A sum of real numbers, taken in the reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a t h ih => rw [Finset.sum_insert h, Finset.sum_insert h, ih, EReal.coe_add]

theorem isR_sum {ι : Type} [Fintype ι] {f : ι → EReal} (h : ∀ i, IsR (f i)) : IsR (∑ i, f i) := by
  choose g hg using h
  exact ⟨∑ i, g i, by rw [← coe_sum]; exact Finset.sum_congr rfl fun i _ => hg i⟩

theorem isR_silu {x : EReal} : IsR x → IsR (silu x) := by
  rintro ⟨a, rfl⟩
  unfold silu
  rw [Ideal.logistic_coe]
  exact (isR_coe _).mul (isR_coe _)

/-- The angles are real. -/
theorem isR_angle (i : Fin 2048) (d : Fin 32) : IsR (angle i d) := by
  unfold angle
  rw [bits_10000, bits_2, bits_64]
  have e : ∀ (a b : ℝ), IsR ((a : EReal) * Ideal.div 1 (Ideal.pow ((10000 : ℝ) : EReal) (Ideal.div (((2 : ℝ) : EReal) * (b : EReal)) ((64 : ℝ) : EReal)))) := by
    intro a b
    rw [Ideal.div_coe (by norm_num), ← EReal.coe_mul, ← EReal.coe_mul, Ideal.pow_coe_coe,
      Ideal.div_coe (y := Real.rpow 10000 _) (ne_of_gt (Real.rpow_pos_of_pos (by norm_num) _))]
    exact (isR_coe _).mul (isR_one.mul (isR_coe _))
  exact e _ _

theorem isR_cosT (i : Fin 2048) (d : Fin 64) : IsR (cosT i d) := by
  unfold cosT
  split
  all_goals
    obtain ⟨a, ha⟩ := isR_angle i _
    rw [ha, Ideal.cos_coe]
    exact isR_coe _
theorem isR_sinT (i : Fin 2048) (d : Fin 64) : IsR (sinT i d) := by
  unfold sinT
  split
  all_goals
    obtain ⟨a, ha⟩ := isR_angle i _
    rw [ha, Ideal.sin_coe]
    exact isR_coe _

theorem isR_rotHalf {y : Fin 64 → EReal} (h : ∀ d, IsR (y d)) (d : Fin 64) : IsR (rotHalf y d) := by
  unfold rotHalf
  split
  · exact (h _).neg
  · exact h _
theorem isR_rope {y : Fin 64 → EReal} (h : ∀ d, IsR (y d)) (i : Fin 2048) (d : Fin 64) : IsR (rope y i d) :=
  ((h d).mul (isR_cosT i d)).add ((isR_rotHalf h d).mul (isR_sinT i d))
theorem isR_dot {n : ℕ} {X : Fin 2048 → Fin 1024 → EReal} {W : Fin 1024 → Fin n → EReal}
    (hX : ∀ i x, IsR (X i x)) (hW : ∀ x j, IsR (W x j)) (i : Fin 2048) (j : Fin n) : IsR (dot X W i j) :=
  isR_sum fun x => (hX i x).mul (hW x j)
theorem isR_feat {k v : Fin 2048 → Fin 64 → EReal} (hk : ∀ i d, IsR (k i d)) (hv : ∀ i d, IsR (v i d))
    (i : Fin 2048) (c : Fin 128) : IsR (feat k v i c) := by
  unfold feat
  split
  · exact hk _ _
  · exact hv _ _

theorem isR_lin {C : ℕ} {w : Fin 3 → Fin C → EReal} {b : EReal} {x : Fin 2048 → Fin C → EReal}
    (hw : ∀ t c, IsR (w t c)) (hb : IsR b) (hx : ∀ i c, IsR (x i c)) (i : Fin 2048) : IsR (lin w b x i) := by
  have h0 : ∀ c, IsR (before x i c) := by
    intro c; unfold before; split
    · exact hx _ _
    · exact isR_zero
  have h2 : ∀ c, IsR (after x i c) := by
    intro c; unfold after; split
    · exact hx _ _
    · exact isR_zero
  exact (((isR_sum fun c => (h0 c).mul (hw 0 c)).add (isR_sum fun c => (hx i c).mul (hw 1 c))).add
    (isR_sum fun c => (h2 c).mul (hw 2 c))).add hb

theorem isR_layers {C D : ℕ} {w : Fin D → Fin 3 → Fin C → EReal} {b : Fin D → EReal} {x : Fin 2048 → Fin C → EReal}
    (hw : ∀ d t c, IsR (w d t c)) (hb : ∀ d, IsR (b d)) (hx : ∀ i c, IsR (x i c)) (i : Fin 2048) (d : Fin D) :
    IsR (layers w b x i d) := isR_silu (isR_lin (hw d) (hb d) hx i)

/-- The router's parameters are real numbers. -/
structure Router.Real (R : Router) : Prop where
  w1 : ∀ d t c, IsR (R.w1 d t c)
  b1 : ∀ d, IsR (R.b1 d)
  w2 : ∀ d t c, IsR (R.w2 d t c)
  b2 : ∀ d, IsR (R.b2 d)
  w3 : ∀ d t c, IsR (R.w3 d t c)
  b3 : ∀ d, IsR (R.b3 d)
  p : ∀ g c, IsR (R.p g c)
  pb : ∀ g, IsR (R.pb g)

theorem isR_lg {R : Router} (hR : R.Real) {x : Fin 4 → Fin 2048 → Fin 128 → EReal} (hx : ∀ g i c, IsR (x g i c))
    (g : Fin 4) (i : Fin 2048) : IsR (R.lg x g i) :=
  (isR_sum fun c => (isR_layers (fun _ => hR.w3 _) (fun _ => hR.b3 _)
    (isR_layers (fun _ => hR.w2 _) (fun _ => hR.b2 _)
      (isR_layers (fun _ => hR.w1 _) (fun _ => hR.b1 _) (hx g))) i c).mul (hR.p g c)).add (hR.pb g)

variable {A : Fin 2048 → Fin 1024 → EReal} {Wq : Fin 1024 → Fin 1024 → EReal} {Wk Wv : Fin 1024 → Fin 256 → EReal}

theorem isR_qS (hA : ∀ i x, IsR (A i x)) (hq : ∀ x n, IsR (Wq x n)) (h : Fin 16) (i : Fin 2048) (d : Fin 64) :
    IsR (qS A Wq h i d) := isR_rope (fun _ => isR_dot hA hq _ _) i d
theorem isR_kS (hA : ∀ i x, IsR (A i x)) (hk : ∀ x n, IsR (Wk x n)) (g : Fin 4) (i : Fin 2048) (d : Fin 64) :
    IsR (kS A Wk g i d) := isR_rope (fun _ => isR_dot hA hk _ _) i d
theorem isR_vS (hA : ∀ i x, IsR (A i x)) (hv : ∀ x n, IsR (Wv x n)) (g : Fin 4) (i : Fin 2048) (d : Fin 64) :
    IsR (vS A Wv g i d) := isR_dot hA hv _ _
theorem isR_lgS (hA : ∀ i x, IsR (A i x)) (hk : ∀ x n, IsR (Wk x n)) (hv : ∀ x n, IsR (Wv x n)) {R : Router} (hR : R.Real)
    (g : Fin 4) (i : Fin 2048) : IsR (lgS A Wk Wv R g i) :=
  isR_lg hR (fun g => isR_feat (isR_kS hA hk g) (isR_vS hA hv g)) g i

/-- A factor of every term of a sum of real numbers leaves the sum. -/
theorem sum_mul_real {ι : Type} [Fintype ι] {f : ι → EReal} (h : ∀ i, IsR (f i)) (e : ℝ) :
    ∑ i, f i * (e : EReal) = (∑ i, f i) * (e : EReal) := by
  choose g hg using h
  have h1 : ∑ i, f i = ((∑ i, g i : ℝ) : EReal) := by
    rw [← coe_sum]; exact Finset.sum_congr rfl fun i _ => hg i
  rw [h1, ← EReal.coe_mul, Finset.sum_mul, ← coe_sum]
  exact Finset.sum_congr rfl fun i _ => by rw [hg i, EReal.coe_mul]

/-- A factor of the row goes through the rotary embedding. -/
theorem rope_mul {y : Fin 64 → EReal} (h : ∀ d, IsR (y d)) (e : ℝ) (i : Fin 2048) (d : Fin 64) :
    rope (fun d => y d * (e : EReal)) i d = rope y i d * (e : EReal) := by
  have hr : rotHalf (fun d => y d * (e : EReal)) d = rotHalf y d * (e : EReal) := by
    unfold rotHalf
    split
    · rw [EReal.neg_mul]
    · rfl
  unfold rope
  rw [hr]
  obtain ⟨a, ha⟩ := h d
  obtain ⟨b, hb⟩ := isR_rotHalf h d
  obtain ⟨s, hs⟩ := isR_sinT i d
  obtain ⟨t, ht⟩ := isR_cosT i d
  rw [hb, hs, ht]
  simp only [ha, ← EReal.coe_mul, ← EReal.coe_add]
  congr 1
  ring

/-- A factor of the query weights is a factor of the queries. -/
theorem qS_mul (hA : ∀ i x, IsR (A i x)) (hq : ∀ x n, IsR (Wq x n)) (e : ℝ) (h : Fin 16) (i : Fin 2048) (d : Fin 64) :
    qS A (fun x n => Wq x n * (e : EReal)) h i d = qS A Wq h i d * (e : EReal) := by
  unfold qS
  rw [← rope_mul (fun _ => isR_dot hA hq _ _)]
  congr 1
  funext d
  unfold dot
  rw [← sum_mul_real (fun x => (hA i x).mul (hq x _))]
  exact Finset.sum_congr rfl fun x _ => (mul_assoc _ _ _).symm

/-- The kernel's weight is the exponential of the reference's masked score. -/
theorem weight_eq {q : Fin 64 → EReal} {k : Fin 2048 → Fin 64 → EReal} (hq : ∀ d, IsR (q d)) (hk : ∀ j d, IsR (k j d))
    (lg : Fin 2048 → EReal) (i j : Fin 2048) :
    weight (fun d => q d * ((1 / 8 : ℝ) : EReal)) k lg i j = Ideal.exp (scoreR q k lg i j) := by
  unfold weight scoreR
  by_cases h : Allowed lg i j
  · rw [if_pos h, if_pos h, Ideal.div_coe (by norm_num), ← sum_mul_real (fun d => (hq d).mul (hk j d))]
    refine congrArg Ideal.exp (Finset.sum_congr rfl fun d _ => ?_)
    rw [mul_assoc, mul_assoc, mul_comm ((1 / 8 : ℝ) : EReal)]
  · rw [if_neg h, if_neg h, Ideal.exp_bot]

/-- The router's factor is one. -/
theorem scaled_eq (v : EReal) {lg : EReal} (h : IsR lg) : scaled v lg = v := by
  obtain ⟨l, rfl⟩ := h
  unfold scaled
  have e : max (l : EReal) 0 = ((max l 0 : ℝ) : EReal) := by
    rw [← EReal.coe_zero]; exact (EReal.coe_strictMono.monotone.map_max).symm
  rw [e, ← EReal.coe_one, ← EReal.coe_add, ← EReal.coe_sub, add_sub_cancel_right, EReal.coe_one, mul_one]

/-- The maximum of a row of scores with a real one among them is real. -/
theorem isR_max {s : Fin 2048 → EReal} (hs : ∀ j, s j = ⊥ ∨ IsR (s j)) {i : Fin 2048} (hi : IsR (s i)) :
    IsR (max ⊥ (Finset.univ.fold max ⊥ s)) := by
  have h1 : Finset.univ.fold max ⊥ s < ⊤ := by
    rw [Finset.fold_max_lt]
    refine ⟨bot_lt_top, fun j _ => ?_⟩
    rcases hs j with h | ⟨r, h⟩
    · rw [h]; exact bot_lt_top
    · rw [h]; exact EReal.coe_lt_top r
  have h2 : ⊥ < Finset.univ.fold max ⊥ s := by
    rw [Finset.lt_fold_max]
    obtain ⟨r, h⟩ := hi
    exact Or.inr ⟨i, Finset.mem_univ _, by rw [h]; exact EReal.bot_lt_coe r⟩
  rw [max_eq_right bot_le]
  exact ⟨_, (EReal.coe_toReal h1.ne h2.ne').symm⟩

/-- The softmax with its maximum subtracted and its weights divided is the weighted sum of
the values over the sum of the weights. -/
theorem softR_eq {s v : Fin 2048 → EReal} (hs : ∀ j, s j = ⊥ ∨ IsR (s j)) {i : Fin 2048} (hi : IsR (s i))
    (hv : ∀ j, IsR (v j)) : softR s v = softK (fun j => Ideal.exp (s j)) v := by
  obtain ⟨M, hM⟩ := isR_max hs hi
  unfold softR softK
  rw [hM]
  have hw : ∀ j, ∃ r : ℝ, 0 ≤ r ∧ Ideal.exp (s j) = (r : EReal)
      ∧ Ideal.exp (s j - (M : EReal)) = ((r * Real.exp (-M) : ℝ) : EReal) := by
    intro j
    rcases hs j with h | ⟨r, h⟩
    · refine ⟨0, le_refl _, ?_, ?_⟩
      · rw [h, Ideal.exp_bot]; rfl
      · rw [h, EReal.bot_sub, Ideal.exp_bot, zero_mul]; rfl
    · refine ⟨Real.exp r, (Real.exp_pos r).le, ?_, ?_⟩
      · rw [h, Ideal.exp_coe]
      · rw [h, ← EReal.coe_sub, Ideal.exp_coe, sub_eq_add_neg, Real.exp_add]
  choose w hw0 hw1 hw2 using hw
  choose u hu using hv
  have hpos : 0 < ∑ j, w j := by
    refine Finset.sum_pos' (fun j _ => hw0 j) ⟨i, Finset.mem_univ _, ?_⟩
    obtain ⟨r, h⟩ := hi
    have e := hw1 i
    rw [h, Ideal.exp_coe] at e
    rw [← EReal.coe_eq_coe_iff.mp e]
    exact Real.exp_pos r
  simp only [hw1, hw2, hu, mul_one]
  have hE := Real.exp_pos (-M)
  have hdiv : ∀ D : ℝ, 0 < D → ∑ j, w j * Real.exp (-M) * (1 / (D * Real.exp (-M))) * u j = (∑ j, w j * u j) * (1 / D) := by
    intro D hD
    rw [Finset.sum_mul]
    refine Finset.sum_congr rfl fun j _ => ?_
    field_simp
  simp only [← EReal.coe_mul, coe_sum]
  have hne : ∑ j, w j * Real.exp (-M) ≠ 0 := by rw [← Finset.sum_mul]; exact (mul_pos hpos hE).ne'
  rw [Ideal.div_coe hpos.ne']
  simp only [Ideal.div_coe hne, ← EReal.coe_mul, coe_sum]
  refine congrArg Real.toEReal ?_
  rw [← Finset.sum_mul]
  exact hdiv _ hpos

/-- The two results agree. -/
theorem outK_eq (hA : ∀ i x, IsR (A i x)) (hq : ∀ x n, IsR (Wq x n)) (hk : ∀ x n, IsR (Wk x n)) (hv : ∀ x n, IsR (Wv x n))
    (Wo : Fin 1024 → Fin 1024 → EReal) {R : Router} (hR : R.Real) (i : Fin 2048) (n : Fin 1024) :
    outK A Wq Wk Wv Wo R i n = outR A Wq Wk Wv Wo R i n := by
  unfold outK outR
  refine Finset.sum_congr rfl fun x _ => congrArg (· * Wo x n) ?_
  have hsc : ∀ (q : Fin 64 → EReal) (k : Fin 2048 → Fin 64 → EReal) (lg : Fin 2048 → EReal) (j : Fin 2048),
      (∀ d, IsR (q d)) → (∀ j d, IsR (k j d)) → Allowed lg i j → IsR (scoreR q k lg i j) := by
    intro q k lg j hq hk h
    unfold scoreR
    rw [if_pos h, Ideal.div_coe (by norm_num)]
    exact (isR_sum fun d => (hq d).mul (hk j d)).mul (isR_coe _)
  rw [softR_eq (i := i)]
  · congr 1
    · funext j
      rw [← weight_eq (isR_qS hA hq _ i) (isR_kS hA hk _)]
      congr 1
      funext d
      exact qS_mul hA hq _ _ i d
    · funext j
      exact (scaled_eq _ (isR_lgS hA hk hv hR _ j)).symm
  · intro j
    by_cases h : Allowed (lgS A Wk Wv R (grp (headOf x))) i j
    · exact Or.inr (hsc _ _ _ j (isR_qS hA hq _ i) (isR_kS hA hk _) h)
    · left; unfold scoreR; rw [if_neg h]
  · exact hsc _ _ _ i (isR_qS hA hq _ i) (isR_kS hA hk _) ⟨le_refl _, Or.inl (by omega)⟩
  · intro j
    rw [scaled_eq _ (isR_lgS hA hk hv hR _ j)]
    exact isR_vS hA hv _ _ _

end Cert.Spec
end
-- ==== Proof.Val.Finite.lean ====
/-
What the precondition says: the arguments' entries are real numbers.
-/
module
public import proofs.«01_k».proof.Proof.Val.Soft
public import proofs.«01_k».proof.Pre_finite_arguments
public import Idealize.ShloMosaic.Lib.ReduceAll
@[expose] public section
set_option maxRecDepth 16384
noncomputable section
namespace Cert.Pre_finite_arguments
open Idealize.ShloMosaic Cert.Spec

/-- A magnitude below plus infinity is a real number's. -/
theorem real_of_lt (x : EReal) (h : Ideal.cmp .olt (max x (-x)) (Ideal.ofBits FTy.f32 0x7F800000#32) = 1#1) : IsR x := by
  rw [show (0x7F800000#32 : BitVec 32) = 2139095040#32 from rfl, bits_top] at h
  have h2 : max x (-x) < ⊤ := by
    by_contra hn
    have e : Ideal.cmp .olt (max x (-x)) ⊤ = 0#1 := by
      simp [Ideal.cmp, hn]
    rw [e] at h
    exact absurd h (by decide)
  have ht : x ≠ ⊤ := ne_of_lt (lt_of_le_of_lt (le_max_left _ _) h2)
  have hb : x ≠ ⊥ := by
    rintro rfl
    exact absurd h2 (by simp)
  exact ⟨_, (EReal.coe_toReal ht hb).symm⟩

/-- One argument's test: every element's magnitude is below plus infinity. -/
def test {S : Shape} {axes : List (Fin S.rank)} (hb : S_.BroadcastsInDim S (![] : Fin 0 → Fin S.rank)) (hr : S.ReducesTo axes S_)
    (h0 : 0 < S_.numel) (x : FVec Ideal S .f32) : IVec S_ 1 :=
  Host.reduce IntOp.andi (cmpf .olt (Host.absf x) (broadcastInDim S ![] hb (constant S_ .f32 0x7F800000#32))) (constantI S_ 1 1#1) hr h0

theorem real_of {S : Shape} {axes : List (Fin S.rank)} {hb : S_.BroadcastsInDim S (![] : Fin 0 → Fin S.rank)} {hr : S.ReducesTo axes S_}
    {h0 : 0 < S_.numel} {x : FVec Ideal S .f32} (e : test hb hr h0 x ix0 = 1#1) (i : S.Idx) : IsR (x i) := by
  haveI : Subsingleton S_.Idx := ⟨fun a b => funext fun k => k.elim0⟩
  have h := Host.reduce_andi_all _ _ hr h0 ix0 e i
  exact real_of_lt _ h

/-- The arguments the precondition speaks of hold real numbers. -/
theorem reals [Facts] (x0 : FVec Ideal S1x2048x1024 .f32) (x1 : FVec Ideal S1024x1024 .f32) (x2 x3 : FVec Ideal S1024x256 .f32)
    (x4 : FVec Ideal S1024x1024 .f32) (x5 : FVec Ideal S256x128x1x3 .f32) (x6 : FVec Ideal S256 .f32)
    (x7 : FVec Ideal S128x64x1x3 .f32) (x8 : FVec Ideal S128 .f32) (x9 : FVec Ideal S64x32x1x3 .f32) (x10 : FVec Ideal S64 .f32)
    (x11 : FVec Ideal S4x16x1x1 .f32) (x12 : FVec Ideal S4 .f32)
    (h : fn (F := Ideal) x0 x1 x2 x3 x4 x5 x6 x7 x8 x9 x10 x11 x12 ix0 = 1#1) :
    (∀ i, IsR (x0 i)) ∧ (∀ i, IsR (x1 i)) ∧ (∀ i, IsR (x2 i)) ∧ (∀ i, IsR (x3 i)) ∧ (∀ i, IsR (x5 i)) ∧ (∀ i, IsR (x6 i))
      ∧ (∀ i, IsR (x7 i)) ∧ (∀ i, IsR (x8 i)) ∧ (∀ i, IsR (x9 i)) ∧ (∀ i, IsR (x10 i)) ∧ (∀ i, IsR (x11 i)) ∧ (∀ i, IsR (x12 i)) := by
  have e : ∀ (a b : IVec S_ 1), andi a b ix0 = 1#1 → a ix0 = 1#1 ∧ b ix0 = 1#1 := fun a b h => IntOp.andi_eq_one.mp h
  obtain ⟨h, h12⟩ := e _ _ h
  obtain ⟨h, h11⟩ := e _ _ h
  obtain ⟨h, h10⟩ := e _ _ h
  obtain ⟨h, h9⟩ := e _ _ h
  obtain ⟨h, h8⟩ := e _ _ h
  obtain ⟨h, h7⟩ := e _ _ h
  obtain ⟨h, h6⟩ := e _ _ h
  obtain ⟨h, h5⟩ := e _ _ h
  obtain ⟨h, h3⟩ := e _ _ h
  obtain ⟨h, h2⟩ := e _ _ h
  obtain ⟨h0, h1⟩ := e _ _ h
  exact ⟨real_of h0, real_of h1, real_of h2, real_of h3, real_of h5, real_of h6, real_of h7, real_of h8, real_of h9,
    real_of h10, real_of h11, real_of h12⟩
end Cert.Pre_finite_arguments
end
-- ==== Proof.Val.Same.lean ====
/-
The equation: on real arguments, the kernel's result is the reference's.
-/
module
public import proofs.«01_k».proof.Defs
public import proofs.«01_k».proof.Proof.Val.KW
public import proofs.«01_k».proof.Proof.Val.RefC
public import proofs.«01_k».proof.Proof.Val.Finite
@[expose] public section
set_option maxRecDepth 16384
noncomputable section
namespace Cert.KernelIdeal.Val
open Idealize.ShloMosaic Idealize.ShloMosaic.TcCoe
open Cert.KernelIdeal Cert.KernelIdeal.Gen Cert.KernelIdeal.Whole Cert.Spec

variable [hPre : Cert.Pre_finite_arguments.Facts]
variable (m : (ℓ : Loc nD τ sig) → Buf (Elt Ideal) ℓ) (ρ : Dev nD → PrngReg) (c : Dev nD)

/-- Under the precondition the kernel's result array is the reference's result of the same arguments. -/
theorem same (hpre : Cert.Pre_KernelIdeal_finite_arguments m) :
    Cert.ReferenceIdeal.Read.val_main_v267 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12))
      = (W6 m ρ c (Proc.devRef .tc main_v48) : FVec Ideal S2048x1024 .f32) := by
  funext j
  obtain ⟨h0, h1, h2, h3, h5, h6, h7, h8, h9, h10, h11, h12⟩ := Cert.Pre_finite_arguments.reals _ _ _ _ _ _ _ _ _ _ _ _ _
    (congrFun (hpre c) ix0)
  have hR : (inR m c).Real := ⟨fun _ _ _ => h5 _, fun _ => h6 _, fun _ _ _ => h7 _, fun _ => h8 _, fun _ _ _ => h9 _,
    fun _ => h10 _, fun _ _ => h11 _, fun _ => h12 _⟩
  rw [ix2_of (A := 2048) (B := 1024) j]
  refine (Cert.ReferenceIdeal.Val.ref_apply _ _ _ _ _ _ _ _ _ _ _ _ _ _ _).trans (Eq.trans ?_ (kernel_apply m ρ c _ _).symm)
  exact (outK_eq (A := inA m c) (Wq := inQ m c) (Wk := inK m c) (Wv := inV m c) (fun _ _ => h0 _) (fun _ _ => h1 _) (fun _ _ => h2 _)
    (fun _ _ => h3 _) (inO m c) hR _ _).symm
end Cert.KernelIdeal.Val
end
-- ==== Proof.lean ====
/- The claims about the kernel: the frames, the ledger of named constants and the equation
with the reference. -/
module

public import proofs.«01_k».proof.Defs
public import proofs.«01_k».proof.Proof.KF.Run
public import proofs.«01_k».proof.Proof.KI.Run
public import proofs.«01_k».proof.Proof.Gen.ReferenceIdeal.Run
public import proofs.«01_k».proof.Proof.Gen.ReferenceIdeal.Read
public import proofs.«01_k».proof.Proof.Gen.Kernel
public import proofs.«01_k».proof.Proof.Gen.KernelIdeal
public import proofs.«01_k».proof.Proof.Gen.ReferenceIdeal
public import proofs.«01_k».proof.Proof.Gen.Pre_finite_arguments
public import proofs.«01_k».proof.Proof.Val.Same
public import Idealize.ShloMosaic.Adequacy
public import Idealize.ShloMosaic.Init

@[expose] public section

noncomputable section

namespace Cert.Proof

open Idealize.ShloMosaic Idealize.SL.Sem

/-- The reference runs, leaves its arguments as they were and every semaphore at zero. -/
theorem reference_frame : Cert.quiescent_ReferenceIdeal := fun m g _ =>
  (θ_run Cert.ReferenceIdeal.defs _ _).mono (fun r h => ⟨fun c => (h c).2,
    Idealize.ShloMosaic.sem_eq_zero_of_no_sems (by decide) r.2⟩) (Cert.ReferenceIdeal.Value.run (F := Ideal) m g)

/-- The kernel and the reference end with the same result array, from equal real arguments. -/
theorem equal : Cert.algebraic_KernelIdeal_ReferenceIdeal_pre_finite_arguments := by
  intro m g m' g' hpre hargs
  refine ⟨fun c => Cert.KernelIdeal.Whole.W6 m g c (Proc.devRef .tc Cert.KernelIdeal.main_v48),
    (θ_run Cert.KernelIdeal.defs _ _).mono (fun r h => h.1) (Cert.KernelIdeal.Whole.run (F := Ideal) m g),
    (θ_run Cert.ReferenceIdeal.defs _ _).mono (fun r h c => ⟨?_, (h c).2⟩) (Cert.ReferenceIdeal.Value.run (F := Ideal) m' g')⟩
  refine (h c).1.trans ((Cert.ReferenceIdeal.Read.val_main_v267_eq _).trans (Eq.trans ?_ (Cert.KernelIdeal.Val.same m g c hpre)))
  obtain ⟨h0, h1, h2, h3, h4, h5, h6, h7, h8, h9, h10, h11, h12⟩ := hargs c
  rw [← h0, ← h1, ← h2, ← h3, ← h4, ← h5, ← h6, ← h7, ← h8, ← h9, ← h10, ← h11, ← h12]

/-- All the claims. -/
theorem claim : Cert.Claim :=
  ⟨Cert.Kernel.Gen.facts, Cert.KernelIdeal.Gen.facts, Cert.ReferenceIdeal.Gen.facts, Cert.Pre_finite_arguments.Gen.facts,
    fun m g _ => Cert.Kernel.Whole.frame m g,
    fun m g _ => Cert.KernelIdeal.Whole.frame m g,
    fun m g _ => Cert.KernelIdeal.Whole.frame m g,
    reference_frame,
    fun m g _ => reference_frame m g trivial,
    IdealRules.named_const.statement Cert.KernelIdeal.κ "maskK" .f32 0xF149F2CA#32 ⊥ rfl,
    equal⟩

end Cert.Proof

end
